-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 3072]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![3072, 1536]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S3x192x1536 : Shape := ⟨3, ![3, 192, 1536]⟩
abbrev S3x2 : Shape := ⟨2, ![3, 2]⟩
abbrev S_ : Shape := ⟨0, ![]⟩
abbrev S192x768 : Shape := ⟨2, ![192, 768]⟩
abbrev S192x1536 : Shape := ⟨2, ![192, 1536]⟩
abbrev S1x1 : Shape := ⟨2, ![1, 1]⟩
abbrev S1x96x1536 : Shape := ⟨3, ![1, 96, 1536]⟩
abbrev S96x1536 : Shape := ⟨2, ![96, 1536]⟩

abbrev nBuf : Space → Nat
  | .hbm => 3
  | .vmem => 9
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .bf16⟩
  | .local _ .vmem, ⟨0, _⟩ => ⟨S1536x768, .bf16⟩
  | .local _ .vmem, ⟨1, _⟩ => ⟨S768x1536, .bf16⟩
  | .local _ .vmem, ⟨2, _⟩ => ⟨S1536x1536, .bf16⟩
  | .local _ .vmem, ⟨3, _⟩ => ⟨S1536x1536, .bf16⟩
  | .local _ .vmem, ⟨4, _⟩ => ⟨S768x1536, .bf16⟩
  | .local _ .vmem, ⟨5, _⟩ => ⟨S3x192x1536, .bf16⟩
  | .local _ .vmem, ⟨6, _⟩ => ⟨S3x192x1536, .bf16⟩
  | .local _ .vmem, ⟨7, _⟩ => ⟨S3x192x1536, .bf16⟩
  | .local _ .vmem, ⟨8, _⟩ => ⟨S3x192x1536, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_4 : BitVec 32 := 1#32
  let v8 : BitVec 32 := Scalar.muli v6 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_6 : BitVec 32 := 1#32
  let v10 : BitVec 32 := Scalar.muli v4 c1_i32_6
  let v11 : BitVec 32 := Scalar.addi c0_i32_7 v10
  v11.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32 : BitVec 32 := 384#32
  let v17 : BitVec 32 := Scalar.muli v2 c384_i32
  let v18 : BitVec 32 := Scalar.addi v17 c0_i32_11
  let v19 : Index := Scalar.indexCast v18
  let c0_12 : Index := 0#32
  ![v19.toNat, 0]
def k0_off2 (d0 : Dev nD) (c0_i32_11 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32 : BitVec 32 := 384#32
  let v17 : BitVec 32 := Scalar.muli v2 c384_i32
  let v18 : BitVec 32 := Scalar.addi v17 c0_i32_11
  let v25 : Index := Scalar.indexCast v18
  let c0_15 : Index := 0#32
  ![v25.toNat, 0]
def k0_off3 (d0 : Dev nD) (c0_i32_17 : BitVec 32) (c0_i32_18 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_16 : BitVec 32 := 384#32
  let v29 : BitVec 32 := Scalar.muli v2 c384_i32_16
  let v30 : BitVec 32 := Scalar.addi v29 c0_i32_17
  let v31 : BitVec 32 := Scalar.addi v30 c0_i32_18
  let c0_i32_28 : BitVec 32 := 0#32
  ![v31.toNat, 0]
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_24 : BitVec 32 := 1#32
  let v32 : BitVec 32 := Scalar.muli v4 c1_i32_24
  let v33 : BitVec 32 := Scalar.addi c0_i32_25 v32
  v33.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_36 : BitVec 32 := 1#32
  let v44 : BitVec 32 := Scalar.muli v4 c1_i32_36
  let v45 : BitVec 32 := Scalar.addi c0_i32_37 v44
  v45.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_55 : BitVec 32 := 1#32
  let v68 : BitVec 32 := Scalar.muli v6 c1_i32_55
  let v69 : BitVec 32 := Scalar.addi c0_i32_56 v68
  v69.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_68 : BitVec 32 := 1#32
  let v80 : BitVec 32 := Scalar.muli v6 c1_i32_68
  let v81 : BitVec 32 := Scalar.addi c0_i32_69 v80
  v81.toNat
def k0_off4 (d0 : Dev nD) (c7_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v89 : BitVec 32 := Scalar.addi v2 c7_i32
  let c4_i32_73 : BitVec 32 := 4#32
  let v90 : BitVec 32 := Scalar.remsi v89 c4_i32_73
  let c384_i32_74 : BitVec 32 := 384#32
  let v91 : BitVec 32 := Scalar.muli v90 c384_i32_74
  let c0_i32_75 : BitVec 32 := 0#32
  let v92 : BitVec 32 := Scalar.addi v91 c0_i32_75
  let v93 : Index := Scalar.indexCast v92
  let c0_76 : Index := 0#32
  ![v93.toNat, 0]
def k0_off5 (d0 : Dev nD) (c7_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v89 : BitVec 32 := Scalar.addi v2 c7_i32
  let c4_i32_73 : BitVec 32 := 4#32
  let v90 : BitVec 32 := Scalar.remsi v89 c4_i32_73
  let c384_i32_74 : BitVec 32 := 384#32
  let v91 : BitVec 32 := Scalar.muli v90 c384_i32_74
  let c0_i32_75 : BitVec 32 := 0#32
  let v92 : BitVec 32 := Scalar.addi v91 c0_i32_75
  let v99 : Index := Scalar.indexCast v92
  let c0_80 : Index := 0#32
  ![v99.toNat, 0]
def k0_off6 (d0 : Dev nD) (c0_i32_81 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v103 : BitVec 32 := Scalar.addi v2 c0_i32_81
  let c1_i32_82 : BitVec 32 := 1#32
  let v104 : BitVec 32 := Scalar.addi v103 c1_i32_82
  let c4_i32_83 : BitVec 32 := 4#32
  let v105 : BitVec 32 := Scalar.remsi v104 c4_i32_83
  let c384_i32_84 : BitVec 32 := 384#32
  let v106 : BitVec 32 := Scalar.muli v105 c384_i32_84
  let c192_i32_85 : BitVec 32 := 192#32
  let v107 : BitVec 32 := Scalar.addi v106 c192_i32_85
  let v108 : Index := Scalar.indexCast v107
  let c0_86 : Index := 0#32
  ![v108.toNat, 0]
def k0_off7 (d0 : Dev nD) (c0_i32_81 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v103 : BitVec 32 := Scalar.addi v2 c0_i32_81
  let c1_i32_82 : BitVec 32 := 1#32
  let v104 : BitVec 32 := Scalar.addi v103 c1_i32_82
  let c4_i32_83 : BitVec 32 := 4#32
  let v105 : BitVec 32 := Scalar.remsi v104 c4_i32_83
  let c384_i32_84 : BitVec 32 := 384#32
  let v106 : BitVec 32 := Scalar.muli v105 c384_i32_84
  let c192_i32_85 : BitVec 32 := 192#32
  let v107 : BitVec 32 := Scalar.addi v106 c192_i32_85
  let v114 : Index := Scalar.indexCast v107
  let c0_90 : Index := 0#32
  ![v114.toNat, 0]
def k0_off8 (d0 : Dev nD) (c7_i32_112 : BitVec 32) (c0_i32_115 : BitVec 32) (c0_i32_116 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v138 : BitVec 32 := Scalar.addi v2 c7_i32_112
  let c4_i32_113 : BitVec 32 := 4#32
  let v139 : BitVec 32 := Scalar.remsi v138 c4_i32_113
  let c384_i32_114 : BitVec 32 := 384#32
  let v140 : BitVec 32 := Scalar.muli v139 c384_i32_114
  let v141 : BitVec 32 := Scalar.addi v140 c0_i32_115
  let v142 : BitVec 32 := Scalar.addi v141 c0_i32_116
  let v143 : Index := Scalar.indexCast v142
  let c0_117 : Index := 0#32
  ![v143.toNat, 0]
def k0_off8_at (r : Fin 10) : BitVec 32 × BitVec 32 × BitVec 32 :=
  if r.val < 5 then
    if r.val < 2 then
      if r.val < 1 then
        (7#32, 0#32, 0#32)
      else
        (7#32, 0#32, 96#32)
    else
      if r.val < 3 then
        (6#32, 0#32, 0#32)
      else
        if r.val < 4 then
          (6#32, 0#32, 96#32)
        else
          (5#32, 0#32, 0#32)
  else
    if r.val < 7 then
      if r.val < 6 then
        (1#32, 0#32, 0#32)
      else
        (3#32, 192#32, 0#32)
    else
      if r.val < 8 then
        (5#32, 0#32, 96#32)
      else
        if r.val < 9 then
          (1#32, 0#32, 96#32)
        else
          (3#32, 192#32, 96#32)
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_126 : BitVec 32 := 1#32
  let v151 : BitVec 32 := Scalar.muli v4 c1_i32_126
  let v152 : BitVec 32 := Scalar.addi c0_i32_127 v151
  v152.toNat
def k0_off9 (d0 : Dev nD) (c0_i32_145 : BitVec 32) (c0_i32_150 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v171 : BitVec 32 := Scalar.addi v2 c0_i32_145
  let c1_i32_146 : BitVec 32 := 1#32
  let v172 : BitVec 32 := Scalar.addi v171 c1_i32_146
  let c4_i32_147 : BitVec 32 := 4#32
  let v173 : BitVec 32 := Scalar.remsi v172 c4_i32_147
  let c384_i32_148 : BitVec 32 := 384#32
  let v174 : BitVec 32 := Scalar.muli v173 c384_i32_148
  let c192_i32_149 : BitVec 32 := 192#32
  let v175 : BitVec 32 := Scalar.addi v174 c192_i32_149
  let v176 : BitVec 32 := Scalar.addi v175 c0_i32_150
  let v177 : Index := Scalar.indexCast v176
  let c0_151 : Index := 0#32
  ![v177.toNat, 0]
def k0_dev8 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_161 : BitVec 32 := 1#32
  let v185 : BitVec 32 := Scalar.muli v6 c1_i32_161
  let v186 : BitVec 32 := Scalar.addi c0_i32_162 v185
  v186.toNat
def k0_dev9 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_201 : BitVec 32 := 1#32
  let v230 : BitVec 32 := Scalar.muli v4 c1_i32_201
  let v231 : BitVec 32 := Scalar.addi c0_i32_202 v230
  v231.toNat
def k0_dev10 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_236 : BitVec 32 := 1#32
  let v264 : BitVec 32 := Scalar.muli v6 c1_i32_236
  let v265 : BitVec 32 := Scalar.addi c0_i32_237 v264
  v265.toNat
def k0_dev11 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_278 : BitVec 32 := 1#32
  let v310 : BitVec 32 := Scalar.muli v4 c1_i32_278
  let v311 : BitVec 32 := Scalar.addi c0_i32_279 v310
  v311.toNat
def k0_dev12 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_315 : BitVec 32 := 1#32
  let v345 : BitVec 32 := Scalar.muli v6 c1_i32_315
  let v346 : BitVec 32 := Scalar.addi c0_i32_316 v345
  v346.toNat
def k0_dev13 (d0 : Dev nD) : Nat :=
  let c0_i32_359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_358 : BitVec 32 := 1#32
  let v391 : BitVec 32 := Scalar.muli v4 c1_i32_358
  let v392 : BitVec 32 := Scalar.addi c0_i32_359 v391
  v392.toNat
def k0_dev14 (d0 : Dev nD) : Nat :=
  let c0_i32_396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_395 : BitVec 32 := 1#32
  let v426 : BitVec 32 := Scalar.muli v6 c1_i32_395
  let v427 : BitVec 32 := Scalar.addi c0_i32_396 v426
  v427.toNat
def k0_off10 (d0 : Dev nD) (c5_i32_439 : BitVec 32) (c0_i32_442 : BitVec 32) (c0_i32_443 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v489 : BitVec 32 := Scalar.addi v2 c5_i32_439
  let c4_i32_440 : BitVec 32 := 4#32
  let v490 : BitVec 32 := Scalar.remsi v489 c4_i32_440
  let c384_i32_441 : BitVec 32 := 384#32
  let v491 : BitVec 32 := Scalar.muli v490 c384_i32_441
  let v492 : BitVec 32 := Scalar.addi v491 c0_i32_442
  let v493 : BitVec 32 := Scalar.addi v492 c0_i32_443
  let c0_i32_450 : BitVec 32 := 0#32
  ![v493.toNat, 0]
def k0_dev15 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_448 : BitVec 32 := 1#32
  let v494 : BitVec 32 := Scalar.muli v4 c1_i32_448
  let v495 : BitVec 32 := Scalar.addi c0_i32_449 v494
  v495.toNat
def k0_dev16 (d0 : Dev nD) : Nat :=
  let c0_i32_494 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_493 : BitVec 32 := 1#32
  let v549 : BitVec 32 := Scalar.muli v6 c1_i32_493
  let v550 : BitVec 32 := Scalar.addi c0_i32_494 v549
  v550.toNat
def k0_dev17 (d0 : Dev nD) : Nat :=
  let c0_i32_538 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_537 : BitVec 32 := 1#32
  let v603 : BitVec 32 := Scalar.muli v4 c1_i32_537
  let v604 : BitVec 32 := Scalar.addi c0_i32_538 v603
  v604.toNat
def k0_dev18 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_582 : BitVec 32 := 1#32
  let v658 : BitVec 32 := Scalar.muli v6 c1_i32_582
  let v659 : BitVec 32 := Scalar.addi c0_i32_583 v658
  v659.toNat
def k0_dev19 (d0 : Dev nD) : Nat :=
  let c0_i32_604 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_603 : BitVec 32 := 1#32
  let v677 : BitVec 32 := Scalar.muli v4 c1_i32_603
  let v678 : BitVec 32 := Scalar.addi c0_i32_604 v677
  v678.toNat
def k0_dev20 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_624 : BitVec 32 := 1#32
  let v696 : BitVec 32 := Scalar.muli v6 c1_i32_624
  let v697 : BitVec 32 := Scalar.addi c0_i32_625 v696
  v697.toNat
def k0_dev21 (d0 : Dev nD) : Nat :=
  let c0_i32_646 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_645 : BitVec 32 := 1#32
  let v715 : BitVec 32 := Scalar.muli v4 c1_i32_645
  let v716 : BitVec 32 := Scalar.addi c0_i32_646 v715
  v716.toNat
def k0_dev22 (d0 : Dev nD) : Nat :=
  let c0_i32_667 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_666 : BitVec 32 := 1#32
  let v734 : BitVec 32 := Scalar.muli v6 c1_i32_666
  let v735 : BitVec 32 := Scalar.addi c0_i32_667 v734
  v735.toNat
def k0_dev23 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_687 : BitVec 32 := 1#32
  let v753 : BitVec 32 := Scalar.muli v4 c1_i32_687
  let v754 : BitVec 32 := Scalar.addi c0_i32_688 v753
  v754.toNat
def k0_dev24 (d0 : Dev nD) : Nat :=
  let c0_i32_709 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_708 : BitVec 32 := 1#32
  let v772 : BitVec 32 := Scalar.muli v6 c1_i32_708
  let v773 : BitVec 32 := Scalar.addi c0_i32_709 v772
  v773.toNat
def k0_dev25 (d0 : Dev nD) : Nat :=
  let c0_i32_730 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_729 : BitVec 32 := 1#32
  let v791 : BitVec 32 := Scalar.muli v4 c1_i32_729
  let v792 : BitVec 32 := Scalar.addi c0_i32_730 v791
  v792.toNat
def k0_dev26 (d0 : Dev nD) : Nat :=
  let c0_i32_751 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_750 : BitVec 32 := 1#32
  let v810 : BitVec 32 := Scalar.muli v6 c1_i32_750
  let v811 : BitVec 32 := Scalar.addi c0_i32_751 v810
  v811.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x3072 : Shape := ⟨2, ![1536, 3072]⟩
abbrev S3072x1536 : Shape := ⟨2, ![3072, 1536]⟩
abbrev S1536x1536 : Shape := ⟨2, ![1536, 1536]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S1536x3072, .bf16⟩
  | .hbm, ⟨1, _⟩ => ⟨S3072x1536, .bf16⟩
  | .hbm, ⟨2, _⟩ => ⟨S1536x1536, .f32⟩
  | .hbm, ⟨3, _⟩ => ⟨S_, .f32⟩
  | .hbm, ⟨4, _⟩ => ⟨S1536x1536, .f32⟩
  | .hbm, ⟨5, _⟩ => ⟨S1536x1536, .f32⟩
  | .hbm, ⟨6, _⟩ => ⟨S_, .f32⟩
  | .hbm, ⟨7, _⟩ => ⟨S1536x1536, .f32⟩
  | .hbm, ⟨8, _⟩ => ⟨S1536x1536, .f32⟩
  | .hbm, ⟨9, _⟩ => ⟨S1536x1536, .f32⟩
  | .hbm, ⟨10, _⟩ => ⟨S1536x1536, .f32⟩
  | .hbm, ⟨11, _⟩ => ⟨S1536x1536, .f32⟩
  | .hbm, ⟨12, _⟩ => ⟨S_, .f32⟩
  | .hbm, ⟨13, _⟩ => ⟨S1536x1536, .f32⟩
  | .hbm, ⟨14, _⟩ => ⟨S1536x1536, .f32⟩
  | .hbm, ⟨15, _⟩ => ⟨S1536x1536, .f32⟩
  | .hbm, ⟨16, _⟩ => ⟨S_, .f32⟩
  | .hbm, ⟨17, _⟩ => ⟨S1536x1536, .f32⟩
  | .hbm, ⟨18, _⟩ => ⟨S1536x1536, .f32⟩
  | .hbm, ⟨19, _⟩ => ⟨S1536x1536, .f32⟩
  | .hbm, ⟨20, _⟩ => ⟨S1536x1536, .bf16⟩
  | _, _ => ⟨S1536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Proto.lean ====
/-
# The protocol of the two-way ring

Four devices. Every transfer moves one band of 96 rows. A transfer is named by its stage (0–2: the reduce-scatter
steps, 3–5: the all-gather steps), its direction (`false`: clockwise, to the next device; `true`: counter-clockwise,
to the previous one) and its sub-block (0 or 1). Each transfer has a send cell on the device that starts it and a
receive cell on the device it lands on; a barrier cell per device collects one unit from each neighbour.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
/-- The device a transfer of direction `d` goes to, and the one it comes from. -/
def fwd (d : Bool) (c : Dev nD) : Dev nD := if d then prv c else nxt c
def back (d : Bool) (c : Dev nD) : Dev nD := if d then nxt c else prv c
/-- The chunk `k` steps behind the direction of travel. -/
def ck (d : Bool) (c : Dev nD) (k : ℕ) : Dev nD := (back d)^[k] c

theorem fwd_back (d : Bool) (c : Dev nD) : fwd d (back d c) = c := by revert d c; decide
theorem back_fwd (d : Bool) (c : Dev nD) : back d (fwd d c) = c := by revert d c; decide
theorem ck_back (d : Bool) (c : Dev nD) (k : ℕ) : ck d (back d c) k = ck d c (k + 1) := (Function.iterate_succ_apply _ _ _).symm
theorem back_ck (d : Bool) (c : Dev nD) (k : ℕ) : back d (ck d c k) = ck d c (k + 1) := (Function.iterate_succ_apply' _ _ _).symm
theorem ck_four (d : Bool) (c : Dev nD) (k : ℕ) : ck d c (4 + k) = ck d c k := by
  have h : ∀ x : Dev nD, (back d)^[4] x = x := by revert d; decide
  unfold ck; rw [Nat.add_comm, Function.iterate_add_apply, h]

def ring (d : Bool) : Dev nD ≃ Dev nD := ⟨fwd d, back d, back_fwd d, fwd_back d⟩

/-! ## Transfers and semaphores -/

/-- Stage, direction, sub-block. -/
abbrev Xfer : Type := Fin 6 × Bool × Fin 2

set_option backward.proofsInPublic true in
/-- The semaphore transfer `t` raises on the sending device. -/
def sendQ (t : Xfer) : DmaSem sig :=
  ⟨3 + (24 * (t.1.val / 3) + (if t.2.1 then 12 else 0) + 2 * (t.1.val % 3) + t.2.2.val), by
    obtain ⟨⟨k, hk⟩, d, ⟨j, hj⟩⟩ := t; show _ < 51; dsimp only; split <;> omega⟩
set_option backward.proofsInPublic true in
/-- The semaphore it raises on the receiving device. -/
def recvQ (t : Xfer) : DmaSem sig :=
  ⟨9 + (24 * (t.1.val / 3) + (if t.2.1 then 12 else 0) + 2 * (t.1.val % 3) + t.2.2.val), by
    obtain ⟨⟨k, hk⟩, d, ⟨j, hj⟩⟩ := t; show _ < 51; dsimp only; split <;> omega⟩

theorem sendQ_inj {t t' : Xfer} (h : sendQ t = sendQ t') : t = t' := by
  obtain ⟨⟨k, hk⟩, d, ⟨j, hj⟩⟩ := t; obtain ⟨⟨k', hk'⟩, d', ⟨j', hj'⟩⟩ := t'
  have := congrArg Fin.val h; simp only [sendQ] at this
  cases d <;> cases d' <;> simp only [Bool.false_eq_true, if_false, if_true, Prod.mk.injEq, Fin.mk.injEq, true_and, false_and, and_false] at this ⊢ <;> omega
theorem recvQ_inj {t t' : Xfer} (h : recvQ t = recvQ t') : t = t' := by
  obtain ⟨⟨k, hk⟩, d, ⟨j, hj⟩⟩ := t; obtain ⟨⟨k', hk'⟩, d', ⟨j', hj'⟩⟩ := t'
  have := congrArg Fin.val h; simp only [recvQ] at this
  cases d <;> cases d' <;> simp only [Bool.false_eq_true, if_false, if_true, Prod.mk.injEq, Fin.mk.injEq, true_and, false_and, and_false] at this ⊢ <;> omega
theorem sendQ_ne_recvQ (t t' : Xfer) : sendQ t ≠ recvQ t' := by
  obtain ⟨⟨k, hk⟩, d, ⟨j, hj⟩⟩ := t; obtain ⟨⟨k', hk'⟩, d', ⟨j', hj'⟩⟩ := t'
  intro h
  have := congrArg Fin.val h; simp only [sendQ, recvQ] at this
  cases d <;> cases d' <;> simp only [Bool.false_eq_true, if_false, if_true] at this <;> omega

abbrev barS : Sem sig := (SemArray.scalar (sig.barrier 0 rfl) : Sems sig S_).sem

abbrev barCell (c : Dev nD) : GSem nD τ sig := ((c : Thread nD τ), .reg barS)
abbrev sendCell (t : Xfer) (c : Dev nD) : GSem nD τ sig := ((c : Thread nD τ), .dma (sendQ t))
abbrev recvCell (t : Xfer) (c : Dev nD) : GSem nD τ sig := ((c : Thread nD τ), .dma (recvQ t))

/-! ## Memrefs -/

abbrev aM : Memref sig .tc .vmem S1536x768 .bf16 := Memref.whole cc0_stg0_0
abbrev bM : Memref sig .tc .vmem S768x1536 .bf16 := Memref.whole cc0_stg1_0
abbrev oM : Memref sig .tc .vmem S1536x1536 .bf16 := Memref.whole cc0_stg2_0
abbrev pM : Memref sig .tc .vmem S1536x1536 .bf16 := Memref.whole cc0_scratch0
abbrev bcM : Memref sig .tc .vmem S768x1536 .bf16 := Memref.whole cc0_scratch1
/-- The send and receive buffers of a direction. -/
def sbM (d : Bool) : Memref sig .tc .vmem S3x192x1536 .bf16 := if d then Memref.whole cc0_scratch4 else Memref.whole cc0_scratch2
def rbM (d : Bool) : Memref sig .tc .vmem S3x192x1536 .bf16 := if d then Memref.whole cc0_scratch5 else Memref.whole cc0_scratch3

theorem band_inb (b : Fin 16) (a : Fin 2) : (![96 * b.val, 0] : Fin 2 → ℕ) a + S96x1536.size a ≤ S1536x1536.size a := by
  obtain ⟨b, hb⟩ := b; fin_cases a <;> simp <;> omega
theorem half_inb (h : Fin 8) (a : Fin 2) : (![192 * h.val, 0] : Fin 2 → ℕ) a + S192x1536.size a ≤ S1536x1536.size a := by
  obtain ⟨b, hb⟩ := h; fin_cases a <;> simp <;> omega
theorem halfA_inb (h : Fin 8) (a : Fin 2) : (![192 * h.val, 0] : Fin 2 → ℕ) a + S192x768.size a ≤ S1536x768.size a := by
  obtain ⟨b, hb⟩ := h; fin_cases a <;> simp <;> omega
theorem sub_inb (j : Fin 2) (a : Fin 2) : (![96 * j.val, 0] : Fin 2 → ℕ) a + S96x1536.size a ≤ S192x1536.size a := by
  obtain ⟨b, hb⟩ := j; fin_cases a <;> simp <;> omega
theorem slot_inb (s : Fin 3) (j : Fin 2) (a : Fin 3) : (![s.val, 96 * j.val, 0] : Fin 3 → ℕ) a + S1x96x1536.size a ≤ S3x192x1536.size a := by
  obtain ⟨b, hb⟩ := j; obtain ⟨s, hs⟩ := s; fin_cases a <;> simp <;> omega

abbrev bandR (b : Fin 16) : Rect S1536x1536 := Rect.unit (s := S1536x1536) ![96 * b.val, 0] S96x1536.size (band_inb b)
abbrev halfR (h : Fin 8) : Rect S1536x1536 := Rect.unit (s := S1536x1536) ![192 * h.val, 0] S192x1536.size (half_inb h)
abbrev halfAR (h : Fin 8) : Rect S1536x768 := Rect.unit (s := S1536x768) ![192 * h.val, 0] S192x768.size (halfA_inb h)
abbrev subR (j : Fin 2) : Rect S192x1536 := Rect.unit (s := S192x1536) ![96 * j.val, 0] S96x1536.size (sub_inb j)
abbrev slotR (s : Fin 3) (j : Fin 2) : Rect S3x192x1536 := Rect.unit (s := S3x192x1536) ![s.val, 96 * j.val, 0] S1x96x1536.size (slot_inb s j)

abbrev bandM (M : Memref sig .tc .vmem S1536x1536 .bf16) (b : Fin 16) : Memref sig .tc .vmem S96x1536 .bf16 := M.slice (bandR b) (fun _ => rfl)
abbrev halfM (M : Memref sig .tc .vmem S1536x1536 .bf16) (h : Fin 8) : Memref sig .tc .vmem S192x1536 .bf16 := M.slice (halfR h) (fun _ => rfl)
abbrev slotM (M : Memref sig .tc .vmem S3x192x1536 .bf16) (s : Fin 3) (j : Fin 2) : Memref sig .tc .vmem S96x1536 .bf16 :=
  (M.slice (slotR s j) (fun _ => rfl)).squeeze S96x1536 squeezes_S1x96x1536_S96x1536

set_option backward.proofsInPublic true in
/-- Half `d` of chunk `q`, and its sub-block `j`. -/
def hf (q : Dev nD) (d : Bool) : Fin 8 := ⟨2 * q.val + (if d then 1 else 0), by obtain ⟨q, hq⟩ := q; have : q < 4 := hq; dsimp only; split <;> omega⟩
set_option backward.proofsInPublic true in
def bd (q : Dev nD) (d : Bool) (j : Fin 2) : Fin 16 := ⟨2 * (hf q d).val + j.val, by have := (hf q d).isLt; have := j.isLt; omega⟩

set_option backward.proofsInPublic true in
/-- The stage within its phase. -/
def stg (k : Fin 6) : Fin 3 := ⟨k.val % 3, Nat.mod_lt _ (by decide)⟩

/-- What transfer `t` reads on the device `c` that starts it. -/
def srcM (t : Xfer) (c : Dev nD) : Memref sig .tc .vmem S96x1536 .bf16 :=
  if t.1.val = 0 then bandM pM (bd (ck t.2.1 c 0) t.2.1 t.2.2)
  else if t.1.val < 3 then slotM (sbM t.2.1) (stg t.1) t.2.2
  else bandM oM (bd (ck t.2.1 c t.1.val) t.2.1 t.2.2)
/-- Where transfer `t` started by `c` lands on the neighbour. -/
def dstM (t : Xfer) (c : Dev nD) : Memref sig .tc .vmem S96x1536 .bf16 :=
  if t.1.val < 3 then slotM (rbM t.2.1) (stg t.1) t.2.2 else bandM oM (bd (ck t.2.1 c t.1.val) t.2.1 t.2.2)

abbrev N : ℕ := (bandM oM 0 : Memref sig .tc .vmem S96x1536 .bf16).view.dmaCredit
theorem N_pos : 0 < N := View.dmaCredit_pos _ (by decide)
theorem band_credit (M : Memref sig .tc .vmem S1536x1536 .bf16) (hM : M = oM ∨ M = pM) (b : Fin 16) : (bandM M b).view.dmaCredit = N := by
  rcases hM with rfl | rfl <;> rfl
theorem slot_credit (d : Bool) (s : Fin 3) (j : Fin 2) : (slotM (sbM d) s j).view.dmaCredit = N ∧ (slotM (rbM d) s j).view.dmaCredit = N := by
  cases d <;> exact ⟨rfl, rfl⟩
theorem src_credit (t : Xfer) (c : Dev nD) : (srcM t c).view.dmaCredit = N := by
  unfold srcM; split
  · exact band_credit _ (.inr rfl) _
  split
  · exact (slot_credit _ _ _).1
  · exact band_credit _ (.inl rfl) _
theorem dst_credit (t : Xfer) (c : Dev nD) : (dstM t c).view.dmaCredit = N := by
  unfold dstM; split
  · exact (slot_credit _ _ _).2
  · exact band_credit _ (.inl rfl) _

/-! ## Contents -/

def s₀ : MemSt nD τ sig (Elt F) := ⟨m, fun _ => 0, ρ⟩

/-- The two staged operands of device `c`. -/
def aStg (c : Dev nD) : Vec F S1536x768 .bf16 :=
  (win0_0.blk (0 : Fin 1)).view.read (Elt F) ((s₀ m ρ).mem ((c : Thread nD τ).loc main_arg0))
def bStg (c : Dev nD) : Vec F S768x1536 .bf16 :=
  (win0_1.blk (0 : Fin 1)).view.read (Elt F) ((s₀ m ρ).mem ((c : Thread nD τ).loc main_arg1))

/-- The right operand after its copy to scratch. -/
def bCast (c : Dev nD) : Vec F S768x1536 .bf16 := k0_pay1 (bStg m ρ c)
/-- The rows of the left operand behind half `h`. -/
def rowsA (c : Dev nD) (h : Fin 8) : Vec F S192x768 .bf16 := fun i => aStg m ρ c ((halfAR h).emb i)
/-- Device `c`'s partial product on half `d` of chunk `q`. -/
def halfV (c q : Dev nD) (d : Bool) : Vec F S192x1536 .bf16 := k0_pay2 (rowsA m ρ c (hf q d)) (bCast m ρ c)
def partV (c q : Dev nD) (d : Bool) (j : Fin 2) : Vec F S96x1536 .bf16 := fun i => halfV m ρ c q d ((subR j).emb i)

/-- A band as a one-deep block, and back. -/
def unsq (X : Vec F S96x1536 .bf16) : Vec F S1x96x1536 .bf16 := shapeCast S1x96x1536 X shapeCasts_S96x1536_S1x96x1536
def sq (X : Vec F S1x96x1536 .bf16) : Vec F S96x1536 .bf16 := shapeCast S96x1536 X shapeCasts_S1x96x1536_S96x1536
theorem sq_unsq (X : Vec F S96x1536 .bf16) : sq (unsq X) = X := shapeCast_shapeCast _ _ _
theorem unsq_sq (X : Vec F S1x96x1536 .bf16) : unsq (sq X) = X := shapeCast_shapeCast _ _ _

/-- What the reduce-scatter sends at step `k`: the received band plus the device's own. -/
def accV (d : Bool) (j : Fin 2) : ℕ → Dev nD → Vec F S96x1536 .bf16
  | 0, c => partV m ρ c (ck d c 0) d j
  | k + 1, c => sq (k0_pay7 (unsq (accV d j k (back d c))) (partV m ρ c (ck d c (k + 1)) d j))
/-- What the device that reduces chunk `q` last stores for it. -/
def outV (q : Dev nD) (d : Bool) (j : Fin 2) : Vec F S96x1536 .bf16 :=
  k0_pay22 (k0_pay21 (unsq (accV m ρ d j 2 (back d (back d q)))) (partV m ρ (back d q) q d j))

/-- What transfer `t` of device `c` carries. -/
def val (t : Xfer) (c : Dev nD) : Vec F S96x1536 .bf16 :=
  if t.1.val < 3 then accV m ρ t.2.1 t.2.2 t.1.val c else outV m ρ (ck t.2.1 c t.1.val) t.2.1 t.2.2

/-! ## The schedule -/

/-- Transfer `t` of `c` may land. -/
def land (t : Xfer) (c : Dev nD) : sProp 𝕄 := iprop(∃ X, ownsTc (fwd t.2.1 c) (dstM t c) fullShare X)
/-- What `c`'s neighbour in direction `d` hands over at the barrier: every landing place of that direction. -/
def barPay (d : Bool) (c : Dev nD) : sProp 𝕄 := bigSep Finset.univ fun kj : Fin 6 × Fin 2 => land (F := F) (kj.1, d, kj.2) c
def sendPay (t : Xfer) (c : Dev nD) : sProp 𝕄 := ownsTc c (srcM t c) fullShare (val m ρ t c)
def recvPay (t : Xfer) (c : Dev nD) : sProp 𝕄 := ownsTc c (dstM t (back t.2.1 c)) fullShare (val m ρ t (back t.2.1 c))

instance land_storable (t : Xfer) (c : Dev nD) : BI.Storable (upEmb : UEmb _ 𝕄) (land (F := F) t c) := by unfold land; infer_instance
instance barPay_storable (d : Bool) (c : Dev nD) : BI.Storable (upEmb : UEmb _ 𝕄) (barPay (F := F) d c) := by unfold barPay; infer_instance
instance sendPay_storable (t : Xfer) (c : Dev nD) : BI.Storable (upEmb : UEmb _ 𝕄) (sendPay m ρ t c) := by unfold sendPay; infer_instance
instance recvPay_storable (t : Xfer) (c : Dev nD) : BI.Storable (upEmb : UEmb _ 𝕄) (recvPay m ρ t c) := by unfold recvPay; infer_instance

abbrev IsSend (sm : SemLoc sig) : Prop := ∃ t, sm = .dma (sendQ t)
abbrev IsRecv (sm : SemLoc sig) : Prop := ∃ t, sm = .dma (recvQ t)

open Classical in
def ringRd : Rounds.Schedule (GSem nD τ sig) Bool 𝕄 where
  duties g r := if r = 0 ∧ g.1.2 = .tc then
    (if g.2 = .reg barS then Finset.univ else if IsSend g.2 ∨ IsRecv g.2 then {false} else ∅) else ∅
  unitless _ := False
  amount g _ _ := if g.2 = .reg barS then 1 else N
  payload g _ d :=
    if g.2 = .reg barS then barPay d g.1.1
    else if h : IsSend g.2 then sendPay m ρ h.choose g.1.1
    else if h : IsRecv g.2 then recvPay m ρ h.choose g.1.1
    else iprop(emp)
  amount_pos g _ _ _ := by
    by_cases h : g.2 = .reg barS
    · rw [if_pos h]; exact Nat.one_pos
    · rw [if_neg h]; exact N_pos

open Classical in
instance ringRd_payload_storable (g : GSem nD τ sig) (r : ℕ) (d : Bool) :
    BI.Storable (upEmb : UEmb _ 𝕄) ((ringRd m ρ).payload g r d) := by
  show BI.Storable upEmb (if g.2 = .reg barS then barPay d g.1.1
    else if h : IsSend g.2 then sendPay m ρ h.choose g.1.1
    else if h : IsRecv g.2 then recvPay m ρ h.choose g.1.1
    else iprop(emp))
  (repeat' split) <;> infer_instance

section Sched
variable (c : Dev nD) (t : Xfer)

theorem duties_bar : (ringRd m ρ).duties (barCell c) 0 = Finset.univ := by
  dsimp only [ringRd]; rw [if_pos ⟨rfl, rfl⟩, if_pos rfl]
theorem duties_send : (ringRd m ρ).duties (sendCell t c) 0 = {false} := by
  dsimp only [ringRd]; rw [if_pos ⟨rfl, rfl⟩, if_neg (fun h => by cases h), if_pos (.inl ⟨t, rfl⟩)]
theorem duties_recv : (ringRd m ρ).duties (recvCell t c) 0 = {false} := by
  dsimp only [ringRd]; rw [if_pos ⟨rfl, rfl⟩, if_neg (fun h => by cases h), if_pos (.inr ⟨t, rfl⟩)]
theorem duties_later (g : GSem nD τ sig) : ∀ r, 1 ≤ r → (ringRd m ρ).duties g r = ∅ :=
  fun r hr => by dsimp only [ringRd]; rw [if_neg fun h => by omega]

theorem amount_bar (d : Bool) : (ringRd m ρ).amount (barCell c) 0 d = 1 := by dsimp only [ringRd]; exact if_pos rfl
theorem amount_dma (q : DmaSem sig) (d : Bool) : (ringRd m ρ).amount ((c : Thread nD τ), .dma q) 0 d = N := by
  dsimp only [ringRd]; exact if_neg (fun h => by cases h)

theorem expect_bar : (ringRd m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (ringRd m ρ).expect (sendCell t c) 0 = N := by
  unfold Schedule.expect Schedule.amountOf; rw [duties_send m ρ c t, Finset.sum_singleton, amount_dma]
theorem expect_recv : (ringRd m ρ).expect (recvCell t c) 0 = N := by
  unfold Schedule.expect Schedule.amountOf; rw [duties_recv m ρ c t, Finset.sum_singleton, amount_dma]

theorem payload_bar (d : Bool) : (ringRd m ρ).payload (barCell c) 0 d = barPay d c := by dsimp only [ringRd]; rw [if_pos rfl]
theorem payload_send (d : Bool) : (ringRd m ρ).payload (sendCell t c) 0 d = sendPay m ρ t c := by
  have h : IsSend (SemLoc.dma (sendQ t) : SemLoc sig) := ⟨t, rfl⟩
  have e : h.choose = t := (sendQ_inj (SemLoc.dma.inj h.choose_spec)).symm
  dsimp only [ringRd]; rw [if_neg (fun h => by cases h), dif_pos h, e]
theorem payload_recv (d : Bool) : (ringRd m ρ).payload (recvCell t c) 0 d = recvPay m ρ t c := by
  have h : IsRecv (SemLoc.dma (recvQ t) : SemLoc sig) := ⟨t, rfl⟩
  have h' : ¬ IsSend (SemLoc.dma (recvQ t) : SemLoc sig) := fun ⟨t', h⟩ => sendQ_ne_recvQ t' t (SemLoc.dma.inj h).symm
  have e : h.choose = t := (recvQ_inj (SemLoc.dma.inj h.choose_spec)).symm
  dsimp only [ringRd]; rw [if_neg (fun h => by cases h), dif_neg h', dif_pos h, e]

theorem rest_bar : bigSep ((ringRd m ρ).duties (barCell c) 0 \ ∅) (fun d => (ringRd m ρ).payload (barCell c) 0 d)
    = iprop(barPay false c ∗ barPay true c) := by
  rw [Finset.sdiff_empty, duties_bar, bigSep_univ_eq_bigSepL [false, true] (by decide) (by decide), bigSepL_cons_cons, bigSepL_singleton,
    payload_bar, payload_bar]
  rfl
theorem rest_send : bigSep ((ringRd m ρ).duties (sendCell t c) 0 \ ∅) (fun d => (ringRd m ρ).payload (sendCell t c) 0 d) = sendPay m ρ t c := by
  rw [Finset.sdiff_empty, duties_send m ρ c t, bigSep_singleton, payload_send]
theorem rest_recv : bigSep ((ringRd m ρ).duties (recvCell t c) 0 \ ∅) (fun d => (ringRd m ρ).payload (recvCell t c) 0 d) = recvPay m ρ t c := by
  rw [Finset.sdiff_empty, duties_recv m ρ c t, bigSep_singleton, payload_recv]

end Sched

/-! ## What each device owes; the levels -/

/-- The receive credits the transfers `ts` of `c` are to raise, the first of the list outermost. -/
def Ow (c : Dev nD) : List Xfer → CellTallies nD τ sig Unit
  | [] => 0
  | t :: ts => Ow c ts + tallyAt (recvCell t (fwd t.2.1 c)) () N

/-- The transfers in the order the program starts them, and in the order it waits for their arrival. -/
def order : List Xfer :=
  [(0, false, 0), (0, false, 1), (0, true, 0), (0, true, 1),
   (1, false, 0), (1, true, 0), (1, false, 1), (1, true, 1), (2, false, 0), (2, true, 0), (2, false, 1), (2, true, 1),
   (3, false, 0), (3, true, 0), (3, false, 1), (3, true, 1), (4, false, 0), (4, true, 0), (4, false, 1), (4, true, 1),
   (5, false, 0), (5, true, 0), (5, false, 1), (5, true, 1)]
def rorder : List Xfer :=
  [(0, false, 0), (0, true, 0), (0, false, 1), (0, true, 1),
   (1, false, 0), (1, true, 0), (1, false, 1), (1, true, 1), (2, false, 0), (2, true, 0), (2, false, 1), (2, true, 1),
   (3, false, 0), (3, true, 0), (3, false, 1), (3, true, 1), (4, false, 0), (4, true, 0), (4, false, 1), (4, true, 1),
   (5, false, 0), (5, true, 0), (5, false, 1), (5, true, 1)]

def O₁ (c : Dev nD) : CellTallies nD τ sig Unit := Ow c order + tallyAt (barCell (nxt c)) () 1
def O₀ (c : Dev nD) : CellTallies nD τ sig Unit := O₁ c + tallyAt (barCell (prv c)) () 1

def L (g : GSem nD τ sig) : Finset Unit := if g.1.2 = .tc then {()} else ∅
open Classical in
def lvS (sm : SemLoc sig) : ℕ := if sm = .reg barS then 1 else if h : IsRecv sm then 2 + h.choose.1.val else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_bar : lvS (.reg barS) = 1 := if_pos rfl
theorem lvS_recv (t : Xfer) : lvS (.dma (recvQ t)) = 2 + t.1.val := by
  have h : IsRecv (SemLoc.dma (recvQ t) : SemLoc sig) := ⟨t, rfl⟩
  have e : h.choose = t := (recvQ_inj (SemLoc.dma.inj h.choose_spec)).symm
  unfold lvS; rw [if_neg (fun h => by cases h), dif_pos h, e]
theorem lvS_other (q : DmaSem sig) (hq : ∀ t, q ≠ recvQ t) : lvS (.dma q) = 0 := by
  unfold lvS; rw [if_neg (fun h => by cases h), dif_neg (fun ⟨t, h⟩ => hq t (SemLoc.dma.inj h))]

theorem Ow_pos {c : Dev nD} {ts : List Xfer} {g : GSem nD τ sig} {u : Unit} (h : 0 < Ow c ts g u) :
    ∃ t ∈ ts, g = recvCell t (fwd t.2.1 c) := by
  induction ts with
  | nil => exact absurd h (Nat.lt_irrefl 0)
  | cons t ts ih =>
    unfold Ow at h
    rw [Pi.add_apply, Finsupp.add_apply, tallyAt_apply] at h
    by_cases hg : g = recvCell t (fwd t.2.1 c)
    · exact ⟨t, List.mem_cons_self, hg⟩
    · rw [if_neg (fun h' => hg h'.1)] at h
      obtain ⟨t', ht', e⟩ := ih h
      exact ⟨t', List.mem_cons_of_mem _ ht', e⟩
theorem O₀_pos {c : Dev nD} {g : GSem nD τ sig} {u : Unit} (h : 0 < O₀ c g u) :
    (∃ t ∈ order, g = recvCell t (fwd t.2.1 c)) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or] at hn
  obtain ⟨h1, h2⟩ := hn; rw [not_or] at h2
  rw [if_neg (fun h' => h2.1 h'.1), if_neg (fun h' => h2.2 h'.1)] at h
  simp only [Nat.add_zero] at h
  exact h1 (Ow_pos h)

/-- A wait on a cell of level `ℓ` when everything still owed lies above it. -/
theorem mayWait_ow (c : Dev nD) (sm : SemLoc sig) (ts : List Xfer) (h : ∀ t ∈ ts, lvS sm < 2 + t.1.val) :
    (levAts L lv : sProp 𝕄) ⊢ MayWait (c : Thread nD τ) sm () (Ow c ts) :=
  MayOwe.of_cut (L := L) (lev := lv) (lvS sm) (fun p hp => by rw [Finset.mem_singleton.mp hp, L_tc]; exact Finset.mem_singleton_self _)
    (fun g u hg => by obtain ⟨t, _, rfl⟩ := Ow_pos hg; exact Finset.mem_singleton_self _)
    (fun p hp => by rw [Finset.mem_singleton.mp hp]; exact le_refl _)
    (fun g u hg => by obtain ⟨t, ht, rfl⟩ := Ow_pos hg; unfold lv; rw [lvS_recv]; exact h t ht)

theorem mayWait_stage (c : Dev nD) (q : DmaSem sig) (hq : ∀ t, q ≠ recvQ t) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, _, rfl⟩ | rfl | rfl <;> exact Finset.mem_singleton_self _)
      (fun p hp => by rw [Finset.mem_singleton.mp hp]; unfold lv; rw [lvS_other q hq])
      (fun g u hg => by
        rcases O₀_pos hg with ⟨t, _, rfl⟩ | rfl | rfl <;> unfold lv
        · rw [lvS_recv]; omega
        · rw [lvS_bar]; decide
        · rw [lvS_bar]; decide)
  · rw [MayWait_zero]; iintro -; iempintro

end Cert.RingProof

end
-- ==== Proof.Steps.lean ====
/-
# One lemma per kind of effect

The running state of the protocol (`Eng`), and what starting a transfer, waiting for an arrival and waiting for a
departure do to it; loads and stores of halves, bands and slots.
-/
module

public import proofs.«01_k».proof.Proof.Proto

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

abbrev 𝒱₀ : Variants := Variants.none

/-- A program of device `c` meets `Q`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem listSep_cons {I : Type} (i : I) (l : List I) (Φ : I → sProp 𝕄) : bigSepL (i :: l) Φ = iprop(Φ i ∗ bigSepL l Φ) := bigSepL_cons i l Φ
theorem bigSepL_snoc {I : Type} (l : List I) (i : I) (Φ : I → sProp 𝕄) : bigSepL (l ++ [i]) Φ = iprop(bigSepL l Φ ∗ Φ i) := by
  induction l with
  | nil => exact (equiv_iff.mp emp_sep).symm
  | cons a l ih =>
    rw [List.cons_append, listSep_cons, ih, listSep_cons]
    refine equiv_iff.mp ⟨?_, ?_⟩
    · show iprop(Φ a ∗ bigSepL l Φ ∗ Φ i) ⊢ iprop((Φ a ∗ bigSepL l Φ) ∗ Φ i)
      iintro ⟨H1, H2, H3⟩; isplitr [H3]
      · isplitl [H1] <;> iassumption
      · iexact H3
    · show iprop((Φ a ∗ bigSepL l Φ) ∗ Φ i) ⊢ iprop(Φ a ∗ bigSepL l Φ ∗ Φ i)
      iintro ⟨⟨H1, H2⟩, H3⟩; isplitl [H1]; · iexact H1
      isplitl [H2] <;> iassumption

/-! ## The cells, listed -/

abbrev CI : Type := Option (Bool × Xfer)
def csem : CI → SemLoc sig
  | none => .reg barS
  | some (false, t) => .dma (sendQ t)
  | some (true, t) => .dma (recvQ t)
abbrev kcell (ck : Dev nD × CI) : GSem nD τ sig := ((ck.1 : Thread nD τ), csem ck.2)

variable (K : Dev nD × CI → ℕ)

/-- What every device knows of every cell. -/
def records : sProp 𝕄 :=
  iprop((levAts L lv : sProp 𝕄) ∗ (bigSep Finset.univ fun ck : Dev nD × CI => cellInv ER (ringRd m ρ) (K ck) (kcell ck))
    ∗ bigSep Finset.univ fun ck : Dev nD × CI => reached ER (kcell ck) 0)
instance records_persistent : BI.Persistent (records m ρ K) := by unfold records; infer_instance

theorem inv_at (ck : Dev nD × CI) : records m ρ K ⊢ cellInv ER (ringRd m ρ) (K ck) (kcell ck) := by
  have h : (bigSep Finset.univ fun ck : Dev nD × CI => (cellInv ER (ringRd m ρ) (K ck) (kcell ck) : sProp 𝕄)) ⊢ cellInv ER (ringRd m ρ) (K ck) (kcell ck) :=
    bigSep_elim (Finset.mem_univ ck)
  unfold records; iintro ⟨-, H, -⟩; iapply h; iexact H
theorem reached_at (ck : Dev nD × CI) : records m ρ K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records; iintro ⟨-, -, H⟩; iapply h; iexact H
theorem lev_at : records m ρ K ⊢ (levAts L lv : sProp 𝕄) := by
  unfold records; iintro ⟨H, -, -⟩; iexact H

/-! ## The running state -/

def sendToks (c : Dev nD) (t : Xfer) : sProp 𝕄 := iprop(dutyTok ER (sendCell t c) 0 false ∗ dutyTok ER (recvCell t (fwd t.2.1 c)) 0 false)
def sendPos (c : Dev nD) (t : Xfer) : sProp 𝕄 := atPos ER (sendCell t c) 0 ∅ 0
def sendCred (c : Dev nD) (t : Xfer) : sProp 𝕄 := cred (tallyAt (sendCell t c) () N)
def recvRes (c : Dev nD) (t : Xfer) : sProp 𝕄 := iprop(cred (tallyAt (recvCell t c) () N) ∗ atPos ER (recvCell t c) 0 ∅ 0)
def zeroS (c : Dev nD) (t : Xfer) : sProp 𝕄 := semVal (sendCell t c) 0
def zeroR (c : Dev nD) (t : Xfer) : sProp 𝕄 := semVal (recvCell t c) 0

/-- `n` transfers started, `r` arrivals and `w` departures waited for. -/
def Eng (c : Dev nD) (n r w : ℕ) : sProp 𝕄 :=
  iprop(records m ρ K ∗ (∃ W, owes (c : Thread nD τ) (Ow c (order.drop n)) W)
    ∗ bigSepL (order.drop n) (sendToks (F := F) c) ∗ bigSepL (order.drop n) (fun t => land (F := F) t c)
    ∗ bigSepL (order.drop w) (sendPos (F := F) c) ∗ bigSepL ((order.take n).drop w) (sendCred (F := F) c)
    ∗ bigSepL (rorder.drop r) (recvRes (F := F) c)
    ∗ bigSepL (order.take w) (zeroS (F := F) c) ∗ bigSepL (rorder.take r) (zeroR (F := F) c))

theorem drop_at {l : List Xfer} {n : ℕ} {t : Xfer} (h : l[n]? = some t) : l.drop n = t :: l.drop (n + 1) := by
  obtain ⟨hn, rfl⟩ := List.getElem?_eq_some_iff.mp h; exact List.drop_eq_getElem_cons hn
theorem take_at {l : List Xfer} {n : ℕ} {t : Xfer} (h : l[n]? = some t) : l.take (n + 1) = l.take n ++ [t] := by
  rw [List.take_succ, h]; rfl

/-- Starting transfer `t`. -/
theorem send_step (c n' : Dev nD) (t : Xfer) {n r : ℕ} (hn : order[n]? = some t) (hn' : n' = fwd t.2.1 c)
    {src dst : Memref sig .tc .vmem S96x1536 .bf16} (hs : src = srcM t c) (hd : dst = dstM t c)
    {qs qr : DmaSem sig} (hqs : qs = sendQ t) (hqr : qr = recvQ t)
    {hsc : (dst : Memref sig (Dev.tc n' : Thread nD τ).2.kind .vmem S96x1536 .bf16).view.ref.isScScratch = false}
    {hsrc : src.view.WordExact} {hdst : dst.view.WordExact}
    {hsem : DmaTarget.Typed .vmem (.dma qr) (.remote (Dev.tc n' : Thread nD τ) dst (.dma qs) hsc)}
    {α : Type} {Q : α → sProp 𝕄} {k : PUnit → Prog (TpuEff nD τ sig (Elt F) Λ₀ .tc) α} :
    iprop(Eng m ρ K c n r 0 ∗ sendPay m ρ t c)
      ⊢ iprop((Eng m ρ K c (n + 1) r 0 -∗ Wp c (k ⟨⟩) Q)
          -∗ Wp c (.op (.enqueueDma src (.remote (Dev.tc n' : Thread nD τ) dst (.dma qs) hsc) (.dma qr) hsrc hdst hsem) k) Q) := by
  subst hn' hs hd hqs hqr
  unfold Eng
  rw [drop_at hn, listSep_cons, listSep_cons, take_at hn, List.drop_zero, List.drop_zero, List.drop_zero, bigSepL_snoc]
  unfold sendToks land sendPay ownsTc owns
  iintro ⟨⟨#HR, ⟨%W, HO⟩, ⟨⟨Hts, Htr⟩, Htoks⟩, ⟨⟨%X, %fd, -, Hd⟩, Hland⟩, Hpos, Hcred, Hrecv, Hzs, Hzr⟩, ⟨%fs, %hfs, Hsrc⟩⟩ Hk
  iapply (Rounds.wp_send_pointsTo 𝒱₀ ER (ringRd m ρ) (c : Thread nD τ) none (c' := (fwd t.2.1 c : Thread nD τ)) (src := srcM t c) (dst := dstM t c) (κ₁ := K (c, some (false, t))) (κ₂ := K (fwd t.2.1 c, some (true, t)))
    (r₁ := 0) (r₂ := 0) (d₁ := false) (d₂ := false) (fs := fs) (fd := fd) (q := fullShare)
    (by rw [duties_send m ρ c t]; exact Finset.mem_singleton_self _) (by rw [duties_recv m ρ (fwd t.2.1 c) t]; exact Finset.mem_singleton_self _)
    () () N (show (dstM t c).view.amount (.dma (recvQ t)) = N from dst_credit t c) (amount_dma m ρ c (sendQ t) false) (amount_dma m ρ (fwd t.2.1 c) (recvQ t) false) (Ow c (order.drop (n + 1))) rfl (W := W)
    (by rw [payload_send]; unfold sendPay ownsTc owns; iintro H; iexists fs; isplitr; · ipureintro; exact hfs
        iexact H)
    (by rw [payload_recv]; unfold recvPay; rw [back_fwd]; unfold ownsTc owns; iintro H
        iexists ((dstM t c).view.write (Elt F) fd ((srcM t c).view.read (Elt F) fs) Finset.univ); isplitr
        · ipureintro; exact (View.read_write_univ _ _).trans hfs
        iexact H)) $$ [HO Hts Htr Hd Hsrc]
  · isplitr; · iapply (inv_at m ρ K (c, some (false, t))); iexact HR
    isplitr; · iapply (inv_at m ρ K (fwd t.2.1 c, some (true, t))); iexact HR
    isplitl [Hsrc]; · iexact Hsrc
    isplitl [Hd]; · iexact Hd
    isplitl [HO]; · iexact HO
    isplitl [Hts]; · iexact Hts
    isplitr; · iapply (reached_at m ρ K (c, some (false, t))); iexact HR
    isplitl [Htr]; · iexact Htr
    iapply (reached_at m ρ K (fwd t.2.1 c, some (true, t))); iexact HR
  iintro ⟨Hc, HO⟩
  iapply Hk
  isplitr; · iexact HR
  isplitl [HO]; · iexists W; iexact HO
  isplitl [Htoks]; · iexact Htoks
  isplitl [Hland]; · iexact Hland
  isplitl [Hpos]; · iexact Hpos
  isplitl [Hcred Hc]
  · isplitl [Hcred]; · iexact Hcred
    unfold sendCred; iexact Hc
  isplitl [Hrecv]; · iexact Hrecv
  isplitl [Hzs] <;> iassumption

/-- Waiting for the arrival of the neighbour's transfer `t`. -/
theorem recv_step (c : Dev nD) (t : Xfer) {n r w : ℕ} (hr : rorder[r]? = some t) (hlev : ∀ t' ∈ order.drop n, t.1.val < t'.1.val)
    {src dst : Memref sig .tc .vmem S96x1536 .bf16} (hN : dst.view.dmaCredit = N) {q : DmaSem sig} (hq : q = recvQ t)
    {hsrc : src.view.WordExact} {hdst : dst.view.WordExact}
    {α : Type} {Q : α → sProp 𝕄} {k : PUnit → Prog (TpuEff nD τ sig (Elt F) Λ₀ .tc) α} :
    (Eng m ρ K c n r w)
      ⊢ iprop(((Eng m ρ K c n (r + 1) w ∗ recvPay m ρ t c) -∗ Wp c (k ⟨⟩) Q)
          -∗ Wp c (.op (.waitDma2 q src dst hsrc hdst) k) Q) := by
  subst hq
  unfold Eng
  rw [drop_at hr, listSep_cons, take_at hr, bigSepL_snoc]
  iintro ⟨#HR, ⟨%W, HO⟩, Htoks, Hland, Hpos, Hcred, ⟨Hres, Hrecv⟩, Hzs, Hzr⟩ Hk
  unfold recvRes
  icases Hres with ⟨Hc, Hat⟩
  iapply (Rounds.wp_wait_rest_token 𝒱₀ ER (ringRd m ρ) (c : Thread nD τ) none (κ := K (c, some (true, t)))
      (wpE_waitDma2_eq 𝒱₀ (c : Thread nD τ) none Set.univ) (Set.mem_univ _) () (O := Ow c (order.drop n)) (W := W) (R := 0) (m := 0) (T := ∅)
      (by rw [Nat.zero_add, hN]; exact (expect_recv m ρ c t).symm)) $$ [Hc HO Hat]
  · isplitr; · iapply (inv_at m ρ K (c, some (true, t))); iexact HR
    isplitl [Hc]; · rw [hN]; iexact Hc
    isplitl [HO]; · iexact HO
    isplitr
    · iapply (mayWait_ow c (.dma (recvQ t)) (order.drop n) (fun t' h => by rw [lvS_recv]; exact Nat.add_lt_add_left (hlev t' h) 2))
      iapply (lev_at m ρ K); iexact HR
    iexact Hat
  iintro ⟨HO, Hat, -, Hpay⟩
  imod (Rounds.cell_close ER (ringRd m ρ) (Set.mem_univ (K (c, some (true, t)))) (fun h => h) (R := 0 + 1) (duties_later m ρ (recvCell t c))) $$ [Hat] with Hz
  · isplitr; · iapply (inv_at m ρ K (c, some (true, t))); iexact HR
    iexact Hat
  iapply Hk
  isplitr [Hpay]
  · isplitr; · iexact HR
    isplitl [HO]; · iexists _; iexact HO
    isplitl [Htoks]; · iexact Htoks
    isplitl [Hland]; · iexact Hland
    isplitl [Hpos]; · iexact Hpos
    isplitl [Hcred]; · iexact Hcred
    isplitl [Hrecv]; · iexact Hrecv
    isplitl [Hzs]; · iexact Hzs
    isplitl [Hzr]; · iexact Hzr
    unfold zeroR; iexact Hz
  · iapply (Entails.of_eq (rest_recv m ρ c t)); iexact Hpay

/-- Waiting for the departure of the device's own transfer `t`, all transfers started. -/
theorem sent_step (c : Dev nD) (t : Xfer) {r w : ℕ} (hw : order[w]? = some t)
    {src dst : Memref sig .tc .vmem S96x1536 .bf16} (hN : dst.view.dmaCredit = N) {q : DmaSem sig} (hq : q = sendQ t)
    {hsrc : src.view.WordExact} {hdst : dst.view.WordExact}
    {α : Type} {Q : α → sProp 𝕄} {k : PUnit → Prog (TpuEff nD τ sig (Elt F) Λ₀ .tc) α} :
    (Eng m ρ K c 24 r w)
      ⊢ iprop(((Eng m ρ K c 24 r (w + 1) ∗ sendPay m ρ t c) -∗ Wp c (k ⟨⟩) Q)
          -∗ Wp c (.op (.waitDma2 q src dst hsrc hdst) k) Q) := by
  subst hq
  unfold Eng
  rw [show order.drop 24 = [] from rfl, show order.take 24 = order from rfl, drop_at hw, listSep_cons, listSep_cons, take_at hw, bigSepL_snoc]
  iintro ⟨#HR, ⟨%W, HO⟩, Htoks, Hland, ⟨Hat, Hpos⟩, ⟨Hc, Hcred⟩, Hrecv, Hzs, Hzr⟩ Hk
  unfold sendPos sendCred
  iapply (Rounds.wp_wait_rest_token 𝒱₀ ER (ringRd m ρ) (c : Thread nD τ) none (κ := K (c, some (false, t)))
      (wpE_waitDma2_eq 𝒱₀ (c : Thread nD τ) none Set.univ) (Set.mem_univ _) () (O := Ow c []) (W := W) (R := 0) (m := 0) (T := ∅)
      (by rw [Nat.zero_add, hN]; exact (expect_send m ρ c t).symm)) $$ [Hc HO Hat]
  · isplitr; · iapply (inv_at m ρ K (c, some (false, t))); iexact HR
    isplitl [Hc]; · rw [hN]; iexact Hc
    isplitl [HO]; · iexact HO
    isplitr
    · iapply (mayWait_ow c (.dma (sendQ t)) [] (fun t' h => absurd h List.not_mem_nil))
      iapply (lev_at m ρ K); iexact HR
    iexact Hat
  iintro ⟨HO, Hat, -, Hpay⟩
  imod (Rounds.cell_close ER (ringRd m ρ) (Set.mem_univ (K (c, some (false, t)))) (fun h => h) (R := 0 + 1) (duties_later m ρ (sendCell t c))) $$ [Hat] with Hz
  · isplitr; · iapply (inv_at m ρ K (c, some (false, t))); iexact HR
    iexact Hat
  iapply Hk
  isplitr [Hpay]
  · isplitr; · iexact HR
    isplitl [HO]; · iexists _; iexact HO
    isplitl [Htoks]; · iexact Htoks
    isplitl [Hland]; · iexact Hland
    isplitl [Hpos]; · iexact Hpos
    isplitl [Hcred]; · iexact Hcred
    isplitl [Hrecv]; · iexact Hrecv
    isplitl [Hzs Hz]
    · isplitl [Hzs]; · iexact Hzs
      unfold zeroS; iexact Hz
    iexact Hzr
  · iapply (Entails.of_eq (rest_send m ρ c t)); iexact Hpay

/-! ## Loads and stores -/

/-- A load of exactly the rectangle owned. -/
theorem load_rect (c : Dev nD) {s : Shape} {e : EltTy} (M : Memref sig .tc .vmem s e) (r : Rect s) (hr : ∀ a, r.stride a = 1)
    {q : PosShare TreeShare} {X : r.shape.Idx → Elt F e} {hl : M.view.LoadsAt r.toLoadRect}
    {α : Type} {Q : α → sProp 𝕄} {k : (r.shape.Idx → Elt F e) → Prog (TpuEff nD τ sig (Elt F) Λ₀ .tc) α} :
    (ownsTc c (M.slice r hr) q X : sProp 𝕄)
      ⊢ iprop((ownsTc c (M.slice r hr) q X -∗ Wp c (k X) Q) -∗ Wp c (.op (.load M r.toLoadRect hl) k) Q) := by
  unfold ownsTc owns
  iintro ⟨%f, %hf, H⟩ Hk
  iapply (wp_load_rect 𝒱₀ (c : Thread nD τ) none Set.univ (m := M) (r := r) (S := (M.access r).set) (f := f) (subset_refl _)) $$ H
  iintro H
  rw [show (M.access r).read (Elt F) f = X from hf]
  iapply Hk
  iexists f; isplitr; · ipureintro; exact hf
  iexact H

/-- A store over exactly the rectangle owned. -/
theorem store_rect (c : Dev nD) {s : Shape} {e : EltTy} (M : Memref sig .tc .vmem s e) (r : Rect s) (hr : ∀ a, r.stride a = 1)
    {X w : r.shape.Idx → Elt F e} {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    (ownsTc c (M.slice r hr) fullShare X : sProp 𝕄)
      ⊢ iprop((ownsTc c (M.slice r hr) fullShare w -∗ Wp c (k ⟨⟩) Q) -∗ Wp c (.op (.store M r w Finset.univ hx hm) k) Q) := by
  unfold ownsTc owns
  iintro ⟨%f, %hf, H⟩ Hk
  iapply (wp_store 𝒱₀ (c : Thread nD τ) none Set.univ (m := M) (r := r) (Mk := Finset.univ) (S := (M.access r).set) (f := f) (subset_refl _)) $$ H
  iintro H
  iapply Hk
  iexists ((M.access r).write (Elt F) f w Finset.univ); isplitr; · ipureintro; exact View.read_write_univ _ _
  iexact H

/-- The same at an offset only propositionally the band's. -/
theorem load_band (c : Dev nD) (M : Memref sig .tc .vmem S1536x1536 .bf16) (b : Fin 16) {off : Fin 2 → ℕ} (ho : off = ![96 * b.val, 0])
    {inb : ∀ a, off a + S96x1536.size a ≤ S1536x1536.size a} {q : PosShare TreeShare} {X : Vec F S96x1536 .bf16}
    {hl : M.view.LoadsAt (Rect.unit (s := S1536x1536) off S96x1536.size inb).toLoadRect}
    {α : Type} {Q : α → sProp 𝕄} {k : Vec F S96x1536 .bf16 → Prog (TpuEff nD τ sig (Elt F) Λ₀ .tc) α} :
    (ownsTc c (bandM M b) q X : sProp 𝕄)
      ⊢ iprop((ownsTc c (bandM M b) q X -∗ Wp c (k X) Q)
        -∗ Wp c (.op (.load M (Rect.unit (s := S1536x1536) off S96x1536.size inb).toLoadRect hl) k) Q) := by
  subst ho; exact load_rect c M (bandR b) (fun _ => rfl)

theorem store_band (c : Dev nD) (M : Memref sig .tc .vmem S1536x1536 .bf16) (b : Fin 16) {off : Fin 2 → ℕ} (ho : off = ![96 * b.val, 0])
    {inb : ∀ a, off a + S96x1536.size a ≤ S1536x1536.size a} {X w : Vec F S96x1536 .bf16}
    {hx : (M.access (Rect.unit (s := S1536x1536) off S96x1536.size inb)).Stores Finset.univ}
    {hm : (Finset.univ : Finset (Rect.unit (s := S1536x1536) off S96x1536.size inb).shape.Idx) = Finset.univ ∨ ∀ a, (Rect.unit (s := S1536x1536) off S96x1536.size inb).stride a = 1}
    {α : Type} {Q : α → sProp 𝕄} {k : PUnit → Prog (TpuEff nD τ sig (Elt F) Λ₀ .tc) α} :
    (ownsTc c (bandM M b) fullShare X : sProp 𝕄)
      ⊢ iprop((ownsTc c (bandM M b) fullShare w -∗ Wp c (k ⟨⟩) Q)
        -∗ Wp c (.op (.store M (Rect.unit (s := S1536x1536) off S96x1536.size inb) w Finset.univ hx hm) k) Q) := by
  subst ho; exact store_rect c M (bandR b) (fun _ => rfl)

theorem load_half (c : Dev nD) (M : Memref sig .tc .vmem S1536x1536 .bf16) (h : Fin 8) {off : Fin 2 → ℕ} (ho : off = ![192 * h.val, 0])
    {inb : ∀ a, off a + S192x1536.size a ≤ S1536x1536.size a} {q : PosShare TreeShare} {X : Vec F S192x1536 .bf16}
    {hl : M.view.LoadsAt (Rect.unit (s := S1536x1536) off S192x1536.size inb).toLoadRect}
    {α : Type} {Q : α → sProp 𝕄} {k : Vec F S192x1536 .bf16 → Prog (TpuEff nD τ sig (Elt F) Λ₀ .tc) α} :
    (ownsTc c (halfM M h) q X : sProp 𝕄)
      ⊢ iprop((ownsTc c (halfM M h) q X -∗ Wp c (k X) Q)
        -∗ Wp c (.op (.load M (Rect.unit (s := S1536x1536) off S192x1536.size inb).toLoadRect hl) k) Q) := by
  subst ho; exact load_rect c M (halfR h) (fun _ => rfl)

set_option backward.proofsInPublic true in
/-- Band `j` of half `h`. -/
def hb (h : Fin 8) (j : Fin 2) : Fin 16 := ⟨2 * h.val + j.val, by omega⟩
theorem bd_eq (q : Dev nD) (d : Bool) (j : Fin 2) : bd q d j = hb (hf q d) j := rfl

theorem half_emb_sub (h : Fin 8) (j : Fin 2) (i : S96x1536.Idx) : (halfR h).emb ((subR j).emb i) = (bandR (hb h j)).emb i := by
  funext a; apply Fin.ext
  fin_cases a
  · show 192 * h.val + 1 * (96 * j.val + 1 * (i 0).val) = 96 * (2 * h.val + j.val) + 1 * (i 0).val; omega
  · show 0 + 1 * (0 + 1 * (i 1).val) = 0 + 1 * (i 1).val; omega

theorem half_set (h : Fin 8) : (halfR h).set = (bandR (hb h 0)).set ∪ (bandR (hb h 1)).set := by
  ext i
  rw [Finset.mem_union, Rect.mem_set_unit, Rect.mem_set_unit, Rect.mem_set_unit]
  have h1 : (i 1).val < 1536 := (i 1).isLt
  simp only [Fin.forall_fin_two, hb, Matrix.cons_val_zero, Matrix.cons_val_one, Fin.val_zero, Fin.val_one]
  omega
theorem bands_disjoint (b b' : Fin 16) (hb : b ≠ b') : Disjoint (bandR b).set (bandR b').set := by
  have hne : b.val ≠ b'.val := fun h => hb (Fin.ext h)
  rw [Finset.disjoint_left]
  intro i h h'
  have h := Rect.mem_set_unit.mp h 0
  have h' := Rect.mem_set_unit.mp h' 0
  simp only [Matrix.cons_val_zero] at h h'
  omega

/-- A half is its two bands. -/
theorem half_split (c : Dev nD) (M : Memref sig .tc .vmem S1536x1536 .bf16) (h : Fin 8) (q : PosShare TreeShare) (X : Vec F S192x1536 .bf16) :
    (ownsTc c (halfM M h) q X : sProp 𝕄)
      ⊢ iprop(ownsTc c (bandM M (hb h 0)) q (fun i => X ((subR 0).emb i)) ∗ ownsTc c (bandM M (hb h 1)) q (fun i => X ((subR 1).emb i))) := by
  have e : ∀ (g : M.view.ty.Contents (Elt F)) (j : Fin 2), (M.slice (halfR h) (fun _ => rfl)).view.read (Elt F) g = X →
      (fun i => X ((subR j).emb i)) = fun i => M.view.read (Elt F) g ((bandR (hb h j)).emb i) := fun g j hg => by
    funext i; rw [← hg, ← half_emb_sub]; rfl
  have hset : (M.slice (halfR h) (fun _ => rfl)).view.set = (M.view.slice (bandR (hb h 0))).set ∪ (M.view.slice (bandR (hb h 1))).set := by
    show (M.view.slice (halfR h)).set = _
    rw [View.set_slice, View.set_slice, View.set_slice, half_set, Finset.map_union]
  have hd : Disjoint (M.view.slice (bandR (hb h 0))).set (M.view.slice (bandR (hb h 1))).set := by
    rw [View.set_slice, View.set_slice]
    exact (Finset.disjoint_map _).mpr (bands_disjoint _ _ (fun hh => by have := congrArg Fin.val hh; simp [hb] at this))
  iintro H
  ihave H' := (show ownsTc c (halfM M h) q X ⊢ iprop(∃ g, ⌜(M.slice (halfR h) (fun _ => rfl)).view.read (Elt F) g = X⌝
      ∗ (M.view.loc (c : Thread nD τ)) ↦[(M.slice (halfR h) (fun _ => rfl)).view.set]{q} g) from .rfl) $$ H
  icases H' with ⟨%g, %hg, H⟩
  have b : ∀ j : Fin 2, ((M.view.loc (c : Thread nD τ)) ↦[(M.view.slice (bandR (hb h j))).set]{q} g : sProp 𝕄)
      ⊢ ownsTc c (bandM M (hb h j)) q (fun i => X ((subR j).emb i)) := fun j =>
    (Entails.of_eq (owns_slice_read (c : Thread nD τ) M q (bandR (hb h j)) (fun _ => rfl) g).symm).trans
      (Entails.of_eq (congrArg (fun Y : Vec F S96x1536 .bf16 => (ownsTc c (bandM M (hb h j)) q Y : sProp 𝕄)) (e g j hg).symm))
  rw [hset]
  ihave H' := (pointsTo_union hd).1 $$ H
  icases H' with ⟨H0, H1⟩
  isplitl [H0]
  · iapply (b 0); iexact H0
  · iapply (b 1); iexact H1

/-- Storing a half leaves its two bands. -/
theorem store_half (c : Dev nD) (M : Memref sig .tc .vmem S1536x1536 .bf16) (h : Fin 8) {off : Fin 2 → ℕ} (ho : off = ![192 * h.val, 0])
    {inb : ∀ a, off a + S192x1536.size a ≤ S1536x1536.size a} {X w : Vec F S192x1536 .bf16}
    {hx : (M.access (Rect.unit (s := S1536x1536) off S192x1536.size inb)).Stores Finset.univ}
    {hm : (Finset.univ : Finset (Rect.unit (s := S1536x1536) off S192x1536.size inb).shape.Idx) = Finset.univ ∨ ∀ a, (Rect.unit (s := S1536x1536) off S192x1536.size inb).stride a = 1}
    {α : Type} {Q : α → sProp 𝕄} {k : PUnit → Prog (TpuEff nD τ sig (Elt F) Λ₀ .tc) α} :
    (ownsTc c (halfM M h) fullShare X : sProp 𝕄)
      ⊢ iprop(((ownsTc c (bandM M (hb h 0)) fullShare (fun i => w ((subR 0).emb i)) ∗ ownsTc c (bandM M (hb h 1)) fullShare (fun i => w ((subR 1).emb i))) -∗ Wp c (k ⟨⟩) Q)
        -∗ Wp c (.op (.store M (Rect.unit (s := S1536x1536) off S192x1536.size inb) w Finset.univ hx hm) k) Q) := by
  subst ho
  iintro H Hk
  iapply (store_rect c M (halfR h) (fun _ => rfl)) $$ H
  iintro H
  iapply Hk
  iapply (half_split c M h fullShare w); iexact H

/-- A slot is the block of its buffer it squeezes. -/
theorem slot_eq (c : Dev nD) (M : Memref sig .tc .vmem S3x192x1536 .bf16) (s : Fin 3) (j : Fin 2) (q : PosShare TreeShare) (X : Vec F S96x1536 .bf16) :
    (ownsTc c (slotM M s j) q X : sProp 𝕄) = ownsTc c (M.slice (slotR s j) (fun _ => rfl)) q (unsq X) := by
  have h : ∀ f, ((slotM M s j).view.read (Elt F) f = X) = ((M.slice (slotR s j) (fun _ => rfl)).view.read (Elt F) f = unsq X) := fun f =>
    propext ⟨fun h => by rw [← h]; exact (unsq_sq _).symm, fun h => by
      have : sq ((M.slice (slotR s j) (fun _ => rfl)).view.read (Elt F) f) = X := by rw [h, sq_unsq]
      exact this⟩
  have hs : (slotM M s j).view.set = (M.slice (slotR s j) (fun _ => rfl)).view.set := View.set_reshape _ _
  unfold ownsTc owns
  simp only [h, hs]

theorem load_slot (c : Dev nD) (M : Memref sig .tc .vmem S3x192x1536 .bf16) (s : Fin 3) (j : Fin 2) {off : Fin 3 → ℕ} (ho : off = ![s.val, 96 * j.val, 0])
    {inb : ∀ a, off a + S1x96x1536.size a ≤ S3x192x1536.size a} {q : PosShare TreeShare} {X : Vec F S96x1536 .bf16}
    {hl : M.view.LoadsAt (Rect.unit (s := S3x192x1536) off S1x96x1536.size inb).toLoadRect}
    {α : Type} {Q : α → sProp 𝕄} {k : Vec F S1x96x1536 .bf16 → Prog (TpuEff nD τ sig (Elt F) Λ₀ .tc) α} :
    (ownsTc c (slotM M s j) q X : sProp 𝕄)
      ⊢ iprop((ownsTc c (slotM M s j) q X -∗ Wp c (k (unsq X)) Q)
        -∗ Wp c (.op (.load M (Rect.unit (s := S3x192x1536) off S1x96x1536.size inb).toLoadRect hl) k) Q) := by
  subst ho; rw [slot_eq]; exact load_rect c M (slotR s j) (fun _ => rfl)

theorem store_slot (c : Dev nD) (M : Memref sig .tc .vmem S3x192x1536 .bf16) (s : Fin 3) (j : Fin 2) {off : Fin 3 → ℕ} (ho : off = ![s.val, 96 * j.val, 0])
    {inb : ∀ a, off a + S1x96x1536.size a ≤ S3x192x1536.size a} {X : Vec F S96x1536 .bf16} {w : Vec F S1x96x1536 .bf16}
    {hx : (M.access (Rect.unit (s := S3x192x1536) off S1x96x1536.size inb)).Stores Finset.univ}
    {hm : (Finset.univ : Finset (Rect.unit (s := S3x192x1536) off S1x96x1536.size inb).shape.Idx) = Finset.univ ∨ ∀ a, (Rect.unit (s := S3x192x1536) off S1x96x1536.size inb).stride a = 1}
    {α : Type} {Q : α → sProp 𝕄} {k : PUnit → Prog (TpuEff nD τ sig (Elt F) Λ₀ .tc) α} :
    (ownsTc c (slotM M s j) fullShare X : sProp 𝕄)
      ⊢ iprop((ownsTc c (slotM M s j) fullShare (sq w) -∗ Wp c (k ⟨⟩) Q)
        -∗ Wp c (.op (.store M (Rect.unit (s := S3x192x1536) off S1x96x1536.size inb) w Finset.univ hx hm) k) Q) := by
  subst ho; rw [slot_eq, slot_eq, unsq_sq]; exact store_rect c M (slotR s j) (fun _ => rfl)

end Cert.RingProof

end
-- ==== Proof.State.lean ====
/-
# The state of one device, and its steps

`St n r w p h`: `n` transfers started, `r` arrivals and `w` departures waited for, the payloads of the first `p`
transfers in place, `h` half-chunk products computed. One lemma per effect says how it moves these five numbers.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)
variable (K : Dev nD × CI → ℕ)

/-- One member of a list taken out, to be put back. -/
theorem bigSepL_lend {I : Type} {l : List I} {i : I} (Φ : I → sProp 𝕄) (h : i ∈ l) :
    bigSepL l Φ ⊢ iprop(Φ i ∗ (Φ i -∗ bigSepL l Φ)) := by
  induction l with
  | nil => exact absurd h List.not_mem_nil
  | cons a l ih =>
    rw [listSep_cons]
    rcases List.mem_cons.mp h with rfl | h
    · iintro ⟨H1, H2⟩; isplitl [H1]; · iexact H1
      iintro H1; isplitl [H1] <;> iassumption
    · iintro ⟨H1, H2⟩
      ihave H := (ih h) $$ H2
      icases H with ⟨Hi, Hb⟩
      isplitl [Hi]; · iexact Hi
      iintro Hi; isplitl [H1]; · iexact H1
      iapply Hb; iexact Hi

/-! ## The lists -/

/-- The transfers whose payload is stored by the device itself, in order. -/
def forder : List Xfer :=
  [(1, false, 0), (1, true, 0), (1, false, 1), (1, true, 1), (2, false, 0), (2, true, 0), (2, false, 1), (2, true, 1),
   (3, false, 0), (3, true, 0), (3, false, 1), (3, true, 1)]
/-- The half-chunk products: how many steps behind, which half. -/
def horder : List (ℕ × Bool) := [(0, false), (0, true), (1, false), (1, true), (2, false), (2, true), (3, false), (3, true)]
/-- The bands of the products from the third on. -/
def porder : List (ℕ × Bool × Fin 2) :=
  [(1, false, 0), (1, false, 1), (1, true, 0), (1, true, 1), (2, false, 0), (2, false, 1), (2, true, 0), (2, true, 1),
   (3, false, 0), (3, false, 1), (3, true, 0), (3, true, 1)]
/-- Arrivals that are not forwarded. -/
def kept (t : Xfer) : Bool := decide (t.1.val < 3) || decide (t.1.val = 5)

def halfFree (c : Dev nD) (x : ℕ × Bool) : sProp 𝕄 := iprop(∃ X, ownsTc c (halfM pM (hf (ck x.2 c x.1) x.2)) fullShare X)
def partBand (c : Dev nD) (t : ℕ × Bool × Fin 2) : sProp 𝕄 :=
  ownsTc c (bandM pM (bd (ck t.2.1 c t.1) t.2.1 t.2.2)) fullShare (partV m ρ c (ck t.2.1 c t.1) t.2.1 t.2.2)
def freeSrc (c : Dev nD) (t : Xfer) : sProp 𝕄 := iprop(∃ X, ownsTc c (srcM t c) fullShare X)
/-- The operands and the copy of the right one. -/
def opnds (c : Dev nD) : sProp 𝕄 :=
  iprop(ownsTc c aM fullShare (aStg m ρ c) ∗ ownsTc c bM fullShare (bStg m ρ c) ∗ ownsTc c bcM fullShare (bCast m ρ c))

def St (c : Dev nD) (n r w p h : ℕ) : sProp 𝕄 :=
  iprop(Eng m ρ K c n r w ∗ opnds m ρ c
    ∗ bigSepL ((order.take p).drop n) (sendPay m ρ · c)
    ∗ bigSepL (forder.drop (p - 4)) (freeSrc (F := F) c)
    ∗ bigSepL (horder.drop h) (halfFree (F := F) c)
    ∗ bigSepL (porder.take (2 * (h - 2))) (partBand m ρ c)
    ∗ bigSepL ((rorder.take r).filter kept) (recvPay m ρ · c)
    ∗ bigSepL (order.take w) (sendPay m ρ · c))

/-! ## Transfers -/

theorem st_send (c n' : Dev nD) (t : Xfer) {n r p h : ℕ} (hn : order[n]? = some t)
    (hp : (order.take p).drop n = t :: (order.take p).drop (n + 1)) (hn' : n' = fwd t.2.1 c)
    {src dst : Memref sig .tc .vmem S96x1536 .bf16} (hs : src = srcM t c) (hd : dst = dstM t c)
    {qs qr : DmaSem sig} (hqs : qs = sendQ t) (hqr : qr = recvQ t)
    {hsc : (dst : Memref sig (Dev.tc n' : Thread nD τ).2.kind .vmem S96x1536 .bf16).view.ref.isScScratch = false}
    {hsrc : src.view.WordExact} {hdst : dst.view.WordExact}
    {hsem : DmaTarget.Typed .vmem (.dma qr) (.remote (Dev.tc n' : Thread nD τ) dst (.dma qs) hsc)}
    {α : Type} {Q : α → sProp 𝕄} {k : PUnit → Prog (TpuEff nD τ sig (Elt F) Λ₀ .tc) α} :
    (St m ρ K c n r 0 p h)
      ⊢ iprop((St m ρ K c (n + 1) r 0 p h -∗ Wp c (k ⟨⟩) Q)
          -∗ Wp c (.op (.enqueueDma src (.remote (Dev.tc n' : Thread nD τ) dst (.dma qs) hsc) (.dma qr) hsrc hdst hsem) k) Q) := by
  unfold St
  rw [hp, listSep_cons]
  iintro ⟨HE, HA, ⟨Hp, Hps⟩, HR⟩ Hk
  iapply (send_step m ρ K c n' t hn hn' hs hd hqs hqr) $$ [HE Hp]
  · isplitl [HE] <;> iassumption
  iintro HE
  iapply Hk
  isplitl [HE]; · iexact HE
  isplitl [HA]; · iexact HA
  isplitl [Hps]; · iexact Hps
  iexact HR

theorem st_recv (c : Dev nD) (t : Xfer) {n r w p h : ℕ} (hr : rorder[r]? = some t) (hlev : ∀ t' ∈ order.drop n, t.1.val < t'.1.val)
    (hk : (rorder.take (r + 1)).filter kept = (rorder.take r).filter kept ++ [t])
    {src dst : Memref sig .tc .vmem S96x1536 .bf16} (hN : dst.view.dmaCredit = N) {q : DmaSem sig} (hq : q = recvQ t)
    {hsrc : src.view.WordExact} {hdst : dst.view.WordExact}
    {α : Type} {Q : α → sProp 𝕄} {k : PUnit → Prog (TpuEff nD τ sig (Elt F) Λ₀ .tc) α} :
    (St m ρ K c n r w p h)
      ⊢ iprop((St m ρ K c n (r + 1) w p h -∗ Wp c (k ⟨⟩) Q)
          -∗ Wp c (.op (.waitDma2 q src dst hsrc hdst) k) Q) := by
  unfold St
  rw [hk, bigSepL_snoc]
  iintro ⟨HE, HA, Hp, Hf, Hh, Hb, Hg, Hs⟩ Hk
  iapply (recv_step m ρ K c t hr hlev hN hq) $$ HE
  iintro ⟨HE, Hr⟩
  iapply Hk
  isplitl [HE]; · iexact HE
  isplitl [HA]; · iexact HA
  isplitl [Hp]; · iexact Hp
  isplitl [Hf]; · iexact Hf
  isplitl [Hh]; · iexact Hh
  isplitl [Hb]; · iexact Hb
  isplitl [Hg Hr]
  · isplitl [Hg] <;> iassumption
  iexact Hs

/-- An arrival that is forwarded: the arrived band is the payload of the next transfer. -/
theorem st_recv_fwd (c : Dev nD) (t t' : Xfer) {n r p h : ℕ} (hr : rorder[r]? = some t) (hlev : ∀ t' ∈ order.drop n, t.1.val < t'.1.val)
    (hk : (rorder.take (r + 1)).filter kept = (rorder.take r).filter kept)
    (hp : (order.take (p + 1)).drop n = (order.take p).drop n ++ [t']) (hf : forder.drop (p + 1 - 4) = forder.drop (p - 4))
    (hpay : recvPay m ρ t c = sendPay m ρ t' c)
    {src dst : Memref sig .tc .vmem S96x1536 .bf16} (hN : dst.view.dmaCredit = N) {q : DmaSem sig} (hq : q = recvQ t)
    {hsrc : src.view.WordExact} {hdst : dst.view.WordExact}
    {α : Type} {Q : α → sProp 𝕄} {k : PUnit → Prog (TpuEff nD τ sig (Elt F) Λ₀ .tc) α} :
    (St m ρ K c n r 0 p h)
      ⊢ iprop((St m ρ K c n (r + 1) 0 (p + 1) h -∗ Wp c (k ⟨⟩) Q)
          -∗ Wp c (.op (.waitDma2 q src dst hsrc hdst) k) Q) := by
  unfold St
  rw [hk, hp, hf, bigSepL_snoc]
  iintro ⟨HE, HA, Hp, HR⟩ Hk
  iapply (recv_step m ρ K c t hr hlev hN hq) $$ HE
  iintro ⟨HE, Hr⟩
  ihave Hr := (Entails.of_eq hpay) $$ Hr
  iapply Hk
  isplitl [HE]; · iexact HE
  isplitl [HA]; · iexact HA
  isplitl [Hp Hr]
  · isplitl [Hp] <;> iassumption
  iexact HR

theorem st_sent (c : Dev nD) (t : Xfer) {r w p h : ℕ} (hw : order[w]? = some t)
    {src dst : Memref sig .tc .vmem S96x1536 .bf16} (hN : dst.view.dmaCredit = N) {q : DmaSem sig} (hq : q = sendQ t)
    {hsrc : src.view.WordExact} {hdst : dst.view.WordExact}
    {α : Type} {Q : α → sProp 𝕄} {k : PUnit → Prog (TpuEff nD τ sig (Elt F) Λ₀ .tc) α} :
    (St m ρ K c 24 r w p h)
      ⊢ iprop((St m ρ K c 24 r (w + 1) p h -∗ Wp c (k ⟨⟩) Q)
          -∗ Wp c (.op (.waitDma2 q src dst hsrc hdst) k) Q) := by
  unfold St
  rw [take_at hw, bigSepL_snoc]
  iintro ⟨HE, HA, Hp, Hf, Hh, Hb, Hg, Hs⟩ Hk
  iapply (sent_step m ρ K c t hw hN hq) $$ HE
  iintro ⟨HE, Hr⟩
  iapply Hk
  isplitl [HE]; · iexact HE
  isplitl [HA]; · iexact HA
  isplitl [Hp]; · iexact Hp
  isplitl [Hf]; · iexact Hf
  isplitl [Hh]; · iexact Hh
  isplitl [Hb]; · iexact Hb
  isplitl [Hg]; · iexact Hg
  isplitl [Hs] <;> iassumption

/-! ## The products -/

/-- A load of some rectangle of what is owned. -/
theorem load_sub (c : Dev nD) {s : Shape} {e : EltTy} (M : Memref sig .tc .vmem s e) (r : Rect s) {q : PosShare TreeShare} {X : s.Idx → Elt F e}
    {hl : M.view.LoadsAt r.toLoadRect} {α : Type} {Q : α → sProp 𝕄} {k : (r.shape.Idx → Elt F e) → Prog (TpuEff nD τ sig (Elt F) Λ₀ .tc) α} :
    (ownsTc c M q X : sProp 𝕄)
      ⊢ iprop((ownsTc c M q X -∗ Wp c (k fun i => X (r.emb i)) Q) -∗ Wp c (.op (.load M r.toLoadRect hl) k) Q) := by
  unfold ownsTc owns
  iintro ⟨%f, %hf, H⟩ Hk
  iapply (wp_load_rect 𝒱₀ (c : Thread nD τ) none Set.univ (m := M) (r := r) (S := M.view.set) (f := f) (View.set_slice_subset M.view r)) $$ H
  iintro H
  rw [show (M.access r).read (Elt F) f = fun i => X (r.emb i) from by subst hf; rfl]
  iapply Hk
  iexists f; isplitr; · ipureintro; exact hf
  iexact H

abbrev fullR (inb : ∀ a, (![0, 0] : Fin 2 → ℕ) a + S768x1536.size a ≤ S768x1536.size a) : Rect S768x1536 :=
  Rect.unit (s := S768x1536) ![0, 0] S768x1536.size inb
theorem full_emb (inb) (i : (fullR inb).shape.Idx) : (fullR inb).emb i = i := by
  funext a; apply Fin.ext
  fin_cases a
  · show 0 + 1 * (i 0).val = (i 0).val; omega
  · show 0 + 1 * (i 1).val = (i 1).val; omega

theorem load_full (c : Dev nD) (M : Memref sig .tc .vmem S768x1536 .bf16) {inb : ∀ a, (![0, 0] : Fin 2 → ℕ) a + S768x1536.size a ≤ S768x1536.size a}
    {q : PosShare TreeShare} {X : Vec F S768x1536 .bf16} {hl : M.view.LoadsAt (fullR inb).toLoadRect}
    {α : Type} {Q : α → sProp 𝕄} {k : Vec F S768x1536 .bf16 → Prog (TpuEff nD τ sig (Elt F) Λ₀ .tc) α} :
    (ownsTc c M q X : sProp 𝕄)
      ⊢ iprop((ownsTc c M q X -∗ Wp c (k X) Q) -∗ Wp c (.op (.load M (fullR inb).toLoadRect hl) k) Q) := by
  have h := load_sub c M (fullR inb) (q := q) (X := X) (hl := hl) (Q := Q) (k := k)
  rw [show (fun i => X ((fullR inb).emb i)) = X from funext fun i => congrArg X (full_emb inb i)] at h
  exact h

theorem store_full (c : Dev nD) (M : Memref sig .tc .vmem S768x1536 .bf16) {inb : ∀ a, (![0, 0] : Fin 2 → ℕ) a + S768x1536.size a ≤ S768x1536.size a}
    {X w : Vec F S768x1536 .bf16} {hx : (M.access (fullR inb)).Stores Finset.univ}
    {hm : (Finset.univ : Finset (fullR inb).shape.Idx) = Finset.univ ∨ ∀ a, (fullR inb).stride a = 1}
    {α : Type} {Q : α → sProp 𝕄} {k : PUnit → Prog (TpuEff nD τ sig (Elt F) Λ₀ .tc) α} :
    (ownsTc c M fullShare X : sProp 𝕄)
      ⊢ iprop((ownsTc c M fullShare w -∗ Wp c (k ⟨⟩) Q) -∗ Wp c (.op (.store M (fullR inb) w Finset.univ hx hm) k) Q) := by
  unfold ownsTc owns
  iintro ⟨%f, %hf, H⟩ Hk
  iapply (wp_store 𝒱₀ (c : Thread nD τ) none Set.univ (m := M) (r := fullR inb) (Mk := Finset.univ) (S := M.view.set) (f := f)
    (View.set_slice_subset M.view (fullR inb))) $$ H
  iintro H
  iapply Hk
  iexists ((M.access (fullR inb)).write (Elt F) f w Finset.univ); isplitr
  · ipureintro; funext i
    have h := congrFun (View.read_write_univ (v := M.access (fullR inb)) f w) i
    rw [← h]
    exact congrArg (M.view.read (Elt F) ((M.access (fullR inb)).write (Elt F) f w Finset.univ)) (full_emb inb i).symm
  iexact H

theorem st_loadA (c : Dev nD) {n r w p h : ℕ} (b : Fin 8) {off : Fin 2 → ℕ} (ho : off = ![192 * b.val, 0])
    {inb : ∀ a, off a + S192x768.size a ≤ S1536x768.size a} {hl : aM.view.LoadsAt (Rect.unit (s := S1536x768) off S192x768.size inb).toLoadRect}
    {α : Type} {Q : α → sProp 𝕄} {k : Vec F S192x768 .bf16 → Prog (TpuEff nD τ sig (Elt F) Λ₀ .tc) α} :
    (St m ρ K c n r w p h)
      ⊢ iprop((St m ρ K c n r w p h -∗ Wp c (k (rowsA m ρ c b)) Q)
          -∗ Wp c (.op (.load aM (Rect.unit (s := S1536x768) off S192x768.size inb).toLoadRect hl) k) Q) := by
  subst ho; unfold St opnds
  iintro ⟨HE, ⟨HA, HB⟩, HR⟩ Hk
  iapply (load_sub c aM (halfAR b)) $$ HA
  iintro HA
  iapply Hk
  isplitl [HE]; · iexact HE
  isplitl [HA HB]
  · isplitl [HA] <;> iassumption
  iexact HR

theorem st_loadB (c : Dev nD) {n r w p h : ℕ} {inb : ∀ a, (![0, 0] : Fin 2 → ℕ) a + S768x1536.size a ≤ S768x1536.size a}
    {hl : bcM.view.LoadsAt (fullR inb).toLoadRect}
    {α : Type} {Q : α → sProp 𝕄} {k : Vec F S768x1536 .bf16 → Prog (TpuEff nD τ sig (Elt F) Λ₀ .tc) α} :
    (St m ρ K c n r w p h)
      ⊢ iprop((St m ρ K c n r w p h -∗ Wp c (k (bCast m ρ c)) Q) -∗ Wp c (.op (.load bcM (fullR inb).toLoadRect hl) k) Q) := by
  unfold St opnds
  iintro ⟨HE, ⟨HA, HB, HC⟩, HR⟩ Hk
  iapply (load_full c bcM) $$ HC
  iintro HC
  iapply Hk
  isplitl [HE]; · iexact HE
  isplitl [HA HB HC]
  · isplitl [HA]; · iexact HA
    isplitl [HB] <;> iassumption
  iexact HR

/-- The load of a half before it is overwritten. -/
theorem st_loadHalf (c : Dev nD) {n r w p h : ℕ} (x : ℕ × Bool) (hx : horder.drop h = x :: horder.drop (h + 1)) {off : Fin 2 → ℕ}
    (ho : off = ![192 * (hf (ck x.2 c x.1) x.2).val, 0])
    {inb : ∀ a, off a + S192x1536.size a ≤ S1536x1536.size a} {hl : pM.view.LoadsAt (Rect.unit (s := S1536x1536) off S192x1536.size inb).toLoadRect}
    {α : Type} {Q : α → sProp 𝕄} {k : Vec F S192x1536 .bf16 → Prog (TpuEff nD τ sig (Elt F) Λ₀ .tc) α} :
    (St m ρ K c n r w p h)
      ⊢ iprop((∀ X, St m ρ K c n r w p h -∗ Wp c (k X) Q)
          -∗ Wp c (.op (.load pM (Rect.unit (s := S1536x1536) off S192x1536.size inb).toLoadRect hl) k) Q) := by
  unfold St
  rw [hx, listSep_cons]
  unfold halfFree
  iintro ⟨HE, HA, Hp, Hf, ⟨⟨%X, Hh⟩, Hhs⟩, HR⟩ Hk
  iapply (load_half c pM _ ho) $$ Hh
  iintro Hh
  iapply Hk
  isplitl [HE]; · iexact HE
  isplitl [HA]; · iexact HA
  isplitl [Hp]; · iexact Hp
  isplitl [Hf]; · iexact Hf
  isplitl [Hh Hhs]
  · isplitl [Hh]
    · iexists X; iexact Hh
    · iexact Hhs
  iexact HR

theorem half_pay (c : Dev nD) (d : Bool) (j : Fin 2) :
    (ownsTc c (bandM pM (hb (hf c d) j)) fullShare (fun i => halfV m ρ c c d ((subR j).emb i)) : sProp 𝕄) = sendPay m ρ (0, d, j) c := by
  unfold sendPay srcM val; rfl
theorem half_band (c : Dev nD) (x : ℕ × Bool) (j : Fin 2) :
    (ownsTc c (bandM pM (hb (hf (ck x.2 c x.1) x.2) j)) fullShare (fun i => halfV m ρ c (ck x.2 c x.1) x.2 ((subR j).emb i)) : sProp 𝕄)
      = partBand m ρ c (x.1, x.2, j) := rfl

/-- Storing one of the first two halves readies two transfers. -/
theorem st_storeHalf0 (c : Dev nD) {n r w p : ℕ} (h : ℕ) (d : Bool) (hh : h < 2) (hx : horder.drop h = (0, d) :: horder.drop (h + 1)) (hp4 : p + 2 ≤ 4)
    (hp : (order.take (p + 2)).drop n = (order.take p).drop n ++ [(0, d, 0)] ++ [(0, d, 1)]) {off : Fin 2 → ℕ}
    (ho : off = ![192 * (hf c d).val, 0])
    {inb : ∀ a, off a + S192x1536.size a ≤ S1536x1536.size a} {x : Vec F S192x1536 .bf16} (hv : x = halfV m ρ c c d)
    {hs : (pM.access (Rect.unit (s := S1536x1536) off S192x1536.size inb)).Stores Finset.univ}
    {hm : (Finset.univ : Finset (Rect.unit (s := S1536x1536) off S192x1536.size inb).shape.Idx) = Finset.univ ∨ ∀ a, (Rect.unit (s := S1536x1536) off S192x1536.size inb).stride a = 1}
    {α : Type} {Q : α → sProp 𝕄} {k : PUnit → Prog (TpuEff nD τ sig (Elt F) Λ₀ .tc) α} :
    (St m ρ K c n r w p h)
      ⊢ iprop((St m ρ K c n r w (p + 2) (h + 1) -∗ Wp c (k ⟨⟩) Q)
          -∗ Wp c (.op (.store pM (Rect.unit (s := S1536x1536) off S192x1536.size inb) x Finset.univ hs hm) k) Q) := by
  subst hv
  unfold St
  rw [hx, listSep_cons, hp, bigSepL_snoc, bigSepL_snoc, show p + 2 - 4 = p - 4 by omega, show 2 * (h + 1 - 2) = 2 * (h - 2) by omega]
  unfold halfFree
  iintro ⟨HE, HA, Hp, Hf, ⟨⟨%X, Hh⟩, Hhs⟩, HR⟩ Hk
  iapply (store_half c pM (hf c d) ho) $$ [Hh]
  · iexact Hh
  iintro ⟨H0, H1⟩
  iapply Hk
  isplitl [HE]; · iexact HE
  isplitl [HA]; · iexact HA
  isplitl [Hp H0 H1]
  · isplitr [H1]
    · isplitl [Hp]; · iexact Hp
      iapply (Entails.of_eq (half_pay m ρ c d 0)); iexact H0
    · iapply (Entails.of_eq (half_pay m ρ c d 1)); iexact H1
  isplitl [Hf]; · iexact Hf
  isplitl [Hhs]; · iexact Hhs
  iexact HR

/-- Storing a later half leaves its two bands. -/
theorem st_storeHalf (c : Dev nD) {n r w p : ℕ} (h : ℕ) (x : ℕ × Bool) (hx : horder.drop h = x :: horder.drop (h + 1))
    (hb : porder.take (2 * (h + 1 - 2)) = porder.take (2 * (h - 2)) ++ [(x.1, x.2, 0)] ++ [(x.1, x.2, 1)]) {off : Fin 2 → ℕ}
    (ho : off = ![192 * (hf (ck x.2 c x.1) x.2).val, 0])
    {inb : ∀ a, off a + S192x1536.size a ≤ S1536x1536.size a} {v : Vec F S192x1536 .bf16} (hv : v = halfV m ρ c (ck x.2 c x.1) x.2)
    {hs : (pM.access (Rect.unit (s := S1536x1536) off S192x1536.size inb)).Stores Finset.univ}
    {hm : (Finset.univ : Finset (Rect.unit (s := S1536x1536) off S192x1536.size inb).shape.Idx) = Finset.univ ∨ ∀ a, (Rect.unit (s := S1536x1536) off S192x1536.size inb).stride a = 1}
    {α : Type} {Q : α → sProp 𝕄} {k : PUnit → Prog (TpuEff nD τ sig (Elt F) Λ₀ .tc) α} :
    (St m ρ K c n r w p h)
      ⊢ iprop((St m ρ K c n r w p (h + 1) -∗ Wp c (k ⟨⟩) Q)
          -∗ Wp c (.op (.store pM (Rect.unit (s := S1536x1536) off S192x1536.size inb) v Finset.univ hs hm) k) Q) := by
  subst hv
  unfold St
  rw [hx, listSep_cons, hb, bigSepL_snoc, bigSepL_snoc]
  unfold halfFree
  iintro ⟨HE, HA, Hp, Hf, ⟨⟨%X, Hh⟩, Hhs⟩, Hb, HR⟩ Hk
  iapply (store_half c pM _ ho) $$ Hh
  iintro ⟨H0, H1⟩
  iapply Hk
  isplitl [HE]; · iexact HE
  isplitl [HA]; · iexact HA
  isplitl [Hp]; · iexact Hp
  isplitl [Hf]; · iexact Hf
  isplitl [Hhs]; · iexact Hhs
  isplitl [Hb H0 H1]
  · isplitr [H1]
    · isplitl [Hb]; · iexact Hb
      iapply (Entails.of_eq (half_band m ρ c x 0)); iexact H0
    · iapply (Entails.of_eq (half_band m ρ c x 1)); iexact H1
  iexact HR

/-! ## The bands -/

theorem st_loadPart (c : Dev nD) {n r w p h : ℕ} (t : ℕ × Bool × Fin 2) (ht : t ∈ porder.take (2 * (h - 2))) {off : Fin 2 → ℕ}
    (ho : off = ![96 * (bd (ck t.2.1 c t.1) t.2.1 t.2.2).val, 0])
    {inb : ∀ a, off a + S96x1536.size a ≤ S1536x1536.size a} {hl : pM.view.LoadsAt (Rect.unit (s := S1536x1536) off S96x1536.size inb).toLoadRect}
    {α : Type} {Q : α → sProp 𝕄} {k : Vec F S96x1536 .bf16 → Prog (TpuEff nD τ sig (Elt F) Λ₀ .tc) α} :
    (St m ρ K c n r w p h)
      ⊢ iprop((St m ρ K c n r w p h -∗ Wp c (k (partV m ρ c (ck t.2.1 c t.1) t.2.1 t.2.2)) Q)
          -∗ Wp c (.op (.load pM (Rect.unit (s := S1536x1536) off S96x1536.size inb).toLoadRect hl) k) Q) := by
  unfold St
  iintro ⟨HE, HA, Hp, Hf, Hh, Hb, HR⟩ Hk
  ihave Hb := (bigSepL_lend (partBand m ρ c) ht) $$ Hb
  icases Hb with ⟨Hb, Hbs⟩
  unfold partBand
  iapply (load_band c pM _ ho) $$ Hb
  iintro Hb
  iapply Hk
  isplitl [HE]; · iexact HE
  isplitl [HA]; · iexact HA
  isplitl [Hp]; · iexact Hp
  isplitl [Hf]; · iexact Hf
  isplitl [Hh]; · iexact Hh
  isplitl [Hb Hbs]; · iapply Hbs; iexact Hb
  iexact HR

theorem st_loadRecv (c : Dev nD) {n r w p h : ℕ} (t : Xfer) (ht : t ∈ (rorder.take r).filter kept) (M : Memref sig .tc .vmem S3x192x1536 .bf16)
    (hM : dstM t (back t.2.1 c) = slotM M (stg t.1) t.2.2) {off : Fin 3 → ℕ} (ho : off = ![(stg t.1).val, 96 * t.2.2.val, 0])
    {inb : ∀ a, off a + S1x96x1536.size a ≤ S3x192x1536.size a} {hl : M.view.LoadsAt (Rect.unit (s := S3x192x1536) off S1x96x1536.size inb).toLoadRect}
    {α : Type} {Q : α → sProp 𝕄} {k : Vec F S1x96x1536 .bf16 → Prog (TpuEff nD τ sig (Elt F) Λ₀ .tc) α} :
    (St m ρ K c n r w p h)
      ⊢ iprop((St m ρ K c n r w p h -∗ Wp c (k (unsq (val m ρ t (back t.2.1 c)))) Q)
          -∗ Wp c (.op (.load M (Rect.unit (s := S3x192x1536) off S1x96x1536.size inb).toLoadRect hl) k) Q) := by
  unfold St
  iintro ⟨HE, HA, Hp, Hf, Hh, Hb, Hg, HR⟩ Hk
  ihave Hg := (bigSepL_lend (recvPay m ρ · c) ht) $$ Hg
  icases Hg with ⟨Hg, Hgs⟩
  unfold recvPay
  rw [hM]
  iapply (load_slot c M _ _ ho) $$ Hg
  iintro Hg
  iapply Hk
  isplitl [HE]; · iexact HE
  isplitl [HA]; · iexact HA
  isplitl [Hp]; · iexact Hp
  isplitl [Hf]; · iexact Hf
  isplitl [Hh]; · iexact Hh
  isplitl [Hb]; · iexact Hb
  isplitl [Hg Hgs]; · iapply Hgs; iexact Hg
  iexact HR

/-- The loads of a place before it is overwritten. -/
theorem st_loadSlot (c : Dev nD) {n r w p h : ℕ} (t : Xfer) (ht : forder.drop (p - 4) = t :: forder.drop (p + 1 - 4)) (M : Memref sig .tc .vmem S3x192x1536 .bf16)
    (hM : srcM t c = slotM M (stg t.1) t.2.2) {off : Fin 3 → ℕ} (ho : off = ![(stg t.1).val, 96 * t.2.2.val, 0])
    {inb : ∀ a, off a + S1x96x1536.size a ≤ S3x192x1536.size a} {hl : M.view.LoadsAt (Rect.unit (s := S3x192x1536) off S1x96x1536.size inb).toLoadRect}
    {α : Type} {Q : α → sProp 𝕄} {k : Vec F S1x96x1536 .bf16 → Prog (TpuEff nD τ sig (Elt F) Λ₀ .tc) α} :
    (St m ρ K c n r w p h)
      ⊢ iprop((∀ X, St m ρ K c n r w p h -∗ Wp c (k X) Q)
          -∗ Wp c (.op (.load M (Rect.unit (s := S3x192x1536) off S1x96x1536.size inb).toLoadRect hl) k) Q) := by
  unfold St
  rw [ht, listSep_cons]
  unfold freeSrc
  rw [hM]
  iintro ⟨HE, HA, Hp, ⟨⟨%X, Hf⟩, Hfs⟩, HR⟩ Hk
  iapply (load_slot c M _ _ ho) $$ Hf
  iintro Hf
  iapply Hk
  isplitl [HE]; · iexact HE
  isplitl [HA]; · iexact HA
  isplitl [Hp]; · iexact Hp
  isplitl [Hf Hfs]
  · isplitl [Hf]
    · iexists X; iexact Hf
    · iexact Hfs
  iexact HR

theorem st_loadOut (c : Dev nD) {n r w p h : ℕ} (t : Xfer) (ht : forder.drop (p - 4) = t :: forder.drop (p + 1 - 4))
    (hM : srcM t c = bandM oM (bd (ck t.2.1 c t.1.val) t.2.1 t.2.2)) {off : Fin 2 → ℕ} (ho : off = ![96 * (bd (ck t.2.1 c t.1.val) t.2.1 t.2.2).val, 0])
    {inb : ∀ a, off a + S96x1536.size a ≤ S1536x1536.size a} {hl : oM.view.LoadsAt (Rect.unit (s := S1536x1536) off S96x1536.size inb).toLoadRect}
    {α : Type} {Q : α → sProp 𝕄} {k : Vec F S96x1536 .bf16 → Prog (TpuEff nD τ sig (Elt F) Λ₀ .tc) α} :
    (St m ρ K c n r w p h)
      ⊢ iprop((∀ X, St m ρ K c n r w p h -∗ Wp c (k X) Q)
          -∗ Wp c (.op (.load oM (Rect.unit (s := S1536x1536) off S96x1536.size inb).toLoadRect hl) k) Q) := by
  unfold St
  rw [ht, listSep_cons]
  unfold freeSrc
  rw [hM]
  iintro ⟨HE, HA, Hp, ⟨⟨%X, Hf⟩, Hfs⟩, HR⟩ Hk
  iapply (load_band c oM _ ho) $$ Hf
  iintro Hf
  iapply Hk
  isplitl [HE]; · iexact HE
  isplitl [HA]; · iexact HA
  isplitl [Hp]; · iexact Hp
  isplitl [Hf Hfs]
  · isplitl [Hf]
    · iexists X; iexact Hf
    · iexact Hfs
  iexact HR

/-- Storing the payload of the next transfer. -/
theorem st_storeSlot (c : Dev nD) {n r w p h : ℕ} (t : Xfer) (ht : forder.drop (p - 4) = t :: forder.drop (p + 1 - 4))
    (hp : (order.take (p + 1)).drop n = (order.take p).drop n ++ [t]) (M : Memref sig .tc .vmem S3x192x1536 .bf16)
    (hM : srcM t c = slotM M (stg t.1) t.2.2) {off : Fin 3 → ℕ} (ho : off = ![(stg t.1).val, 96 * t.2.2.val, 0])
    {inb : ∀ a, off a + S1x96x1536.size a ≤ S3x192x1536.size a} {v : Vec F S1x96x1536 .bf16} (hv : sq v = val m ρ t c)
    {hs : (M.access (Rect.unit (s := S3x192x1536) off S1x96x1536.size inb)).Stores Finset.univ}
    {hm : (Finset.univ : Finset (Rect.unit (s := S3x192x1536) off S1x96x1536.size inb).shape.Idx) = Finset.univ ∨ ∀ a, (Rect.unit (s := S3x192x1536) off S1x96x1536.size inb).stride a = 1}
    {α : Type} {Q : α → sProp 𝕄} {k : PUnit → Prog (TpuEff nD τ sig (Elt F) Λ₀ .tc) α} :
    (St m ρ K c n r w p h)
      ⊢ iprop((St m ρ K c n r w (p + 1) h -∗ Wp c (k ⟨⟩) Q)
          -∗ Wp c (.op (.store M (Rect.unit (s := S3x192x1536) off S1x96x1536.size inb) v Finset.univ hs hm) k) Q) := by
  unfold St
  rw [ht, listSep_cons, hp, bigSepL_snoc]
  unfold freeSrc sendPay
  rw [hM, ← hv]
  iintro ⟨HE, HA, Hp, ⟨⟨%X, Hf⟩, Hfs⟩, HR⟩ Hk
  iapply (store_slot c M _ _ ho) $$ Hf
  iintro Hf
  iapply Hk
  isplitl [HE]; · iexact HE
  isplitl [HA]; · iexact HA
  isplitl [Hp Hf]
  · isplitl [Hp] <;> iassumption
  isplitl [Hfs]; · iexact Hfs
  iexact HR

theorem st_storeOut (c : Dev nD) {n r w p h : ℕ} (t : Xfer) (ht : forder.drop (p - 4) = t :: forder.drop (p + 1 - 4))
    (hp : (order.take (p + 1)).drop n = (order.take p).drop n ++ [t])
    (hM : srcM t c = bandM oM (bd (ck t.2.1 c t.1.val) t.2.1 t.2.2)) {off : Fin 2 → ℕ} (ho : off = ![96 * (bd (ck t.2.1 c t.1.val) t.2.1 t.2.2).val, 0])
    {inb : ∀ a, off a + S96x1536.size a ≤ S1536x1536.size a} {v : Vec F S96x1536 .bf16} (hv : v = val m ρ t c)
    {hs : (oM.access (Rect.unit (s := S1536x1536) off S96x1536.size inb)).Stores Finset.univ}
    {hm : (Finset.univ : Finset (Rect.unit (s := S1536x1536) off S96x1536.size inb).shape.Idx) = Finset.univ ∨ ∀ a, (Rect.unit (s := S1536x1536) off S96x1536.size inb).stride a = 1}
    {α : Type} {Q : α → sProp 𝕄} {k : PUnit → Prog (TpuEff nD τ sig (Elt F) Λ₀ .tc) α} :
    (St m ρ K c n r w p h)
      ⊢ iprop((St m ρ K c n r w (p + 1) h -∗ Wp c (k ⟨⟩) Q)
          -∗ Wp c (.op (.store oM (Rect.unit (s := S1536x1536) off S96x1536.size inb) v Finset.univ hs hm) k) Q) := by
  unfold St
  rw [ht, listSep_cons, hp, bigSepL_snoc]
  unfold freeSrc sendPay
  rw [hM, ← hv]
  iintro ⟨HE, HA, Hp, ⟨⟨%X, Hf⟩, Hfs⟩, HR⟩ Hk
  iapply (store_band c oM _ ho) $$ Hf
  iintro Hf
  iapply Hk
  isplitl [HE]; · iexact HE
  isplitl [HA]; · iexact HA
  isplitl [Hp Hf]
  · isplitl [Hp] <;> iassumption
  isplitl [Hfs]; · iexact Hfs
  iexact HR

end Cert.RingProof

end
-- ==== Proof.Parts.lean ====
/-
# The windows of the body

The generated text cuts the body into 34 windows. One lemma per window: from the state before it to the state after.
-/
module

public import proofs.«01_k».proof.Proof.State

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Where the printed offsets lie -/

theorem off1_hf : ∀ (c : Dev nD) (r : Fin 2), k0_off1 c (BitVec.ofNat 32 (192 * r.val)) = ![192 * (hf c (r == 1)).val, 0] := by decide +kernel
theorem off2_hf : ∀ (c : Dev nD) (r : Fin 2), k0_off2 c (BitVec.ofNat 32 (192 * r.val)) = ![192 * (hf c (r == 1)).val, 0] := by decide +kernel
theorem off4_hf : ∀ (c : Dev nD) (k : Fin 3), k0_off4 c (BitVec.ofNat 32 (5 + k.val)) = ![192 * (hf (ck false c (3 - k.val)) false).val, 0] := by decide +kernel
theorem off5_hf : ∀ (c : Dev nD) (k : Fin 3), k0_off5 c (BitVec.ofNat 32 (5 + k.val)) = ![192 * (hf (ck false c (3 - k.val)) false).val, 0] := by decide +kernel
theorem off6_hf : ∀ (c : Dev nD) (k : Fin 3), k0_off6 c (BitVec.ofNat 32 k.val) = ![192 * (hf (ck true c (k.val + 1)) true).val, 0] := by decide +kernel
theorem off7_hf : ∀ (c : Dev nD) (k : Fin 3), k0_off7 c (BitVec.ofNat 32 k.val) = ![192 * (hf (ck true c (k.val + 1)) true).val, 0] := by decide +kernel
theorem off3_bd : ∀ (c : Dev nD) (r j : Fin 2), k0_off3 c (BitVec.ofNat 32 (192 * r.val)) (BitVec.ofNat 32 (96 * j.val)) = ![96 * (bd c (r == 1) j).val, 0] := by decide +kernel
theorem off8_bd : ∀ (c : Dev nD) (k : Fin 3) (j : Fin 2), k0_off8 c (BitVec.ofNat 32 (5 + k.val)) 0#32 (BitVec.ofNat 32 (96 * j.val))
    = ![96 * (bd (ck false c (3 - k.val)) false j).val, 0] := by decide +kernel
theorem off9_bd : ∀ (c : Dev nD) (k : Fin 3) (j : Fin 2), k0_off9 c (BitVec.ofNat 32 k.val) (BitVec.ofNat 32 (96 * j.val))
    = ![96 * (bd (ck true c (k.val + 1)) true j).val, 0] := by decide +kernel
theorem off8_cw : ∀ (c : Dev nD) (j : Fin 2), k0_off8 c 1#32 0#32 (BitVec.ofNat 32 (96 * j.val)) = ![96 * (bd (ck false c 3) false j).val, 0] := by decide +kernel
theorem off8_ccw : ∀ (c : Dev nD) (j : Fin 2), k0_off8 c 3#32 192#32 (BitVec.ofNat 32 (96 * j.val)) = ![96 * (bd (ck true c 3) true j).val, 0] := by decide +kernel
theorem off10_cw : ∀ (c : Dev nD) (k : Fin 3) (j : Fin 2), k0_off10 c (BitVec.ofNat 32 (3 + k.val)) 0#32 (BitVec.ofNat 32 (96 * j.val))
    = ![96 * (bd (ck false c (5 - k.val)) false j).val, 0] := by decide +kernel
theorem off10_ccw : ∀ (c : Dev nD) (k : Fin 3) (j : Fin 2), k0_off10 c (BitVec.ofNat 32 (3 + k.val)) 192#32 (BitVec.ofNat 32 (96 * j.val))
    = ![96 * (bd (ck true c (3 + k.val)) true j).val, 0] := by decide +kernel

/-- A printed band is the band its offset names. -/
theorem band_of (M : Memref sig .tc .vmem S1536x1536 .bf16) {b : Fin 16} {off : Fin 2 → ℕ} (ho : off = ![96 * b.val, 0])
    {inb : ∀ a, off a + S96x1536.size a ≤ S1536x1536.size a} {hr : ∀ a, (Rect.unit (s := S1536x1536) off S96x1536.size inb).stride a = 1} :
    M.slice (Rect.unit (s := S1536x1536) off S96x1536.size inb) hr = bandM M b := by
  subst ho; rfl

universe u
/-- A window of the body at the operands the launch gives it. -/
abbrev withArgs {β : Type u} (f : (arg0 : Memref sig .tc .vmem S1536x768 .bf16) → arg0.IsWhole → (arg1 : Memref sig .tc .vmem S768x1536 .bf16) → arg1.IsWhole
    → (arg2 : Memref sig .tc .vmem S1536x1536 .bf16) → arg2.IsWhole → (arg3 : Memref sig .tc .vmem S1536x1536 .bf16) → arg3.IsWhole
    → (arg4 : Memref sig .tc .vmem S768x1536 .bf16) → arg4.IsWhole → (arg5 : Memref sig .tc .vmem S3x192x1536 .bf16) → arg5.IsWhole
    → (arg6 : Memref sig .tc .vmem S3x192x1536 .bf16) → arg6.IsWhole → (arg7 : Memref sig .tc .vmem S3x192x1536 .bf16) → arg7.IsWhole
    → (arg8 : Memref sig .tc .vmem S3x192x1536 .bf16) → arg8.IsWhole
    → DmaSems sig S3x2 → DmaSems sig S3x2 → DmaSems sig S3x2 → DmaSems sig S3x2 → DmaSems sig S3x2 → DmaSems sig S3x2 → DmaSems sig S3x2 → DmaSems sig S3x2
    → β) : β :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 cc0_scratch12 cc0_scratch13

theorem wp_done (c : Dev nD) {α : Type} (a : α) {Q : α → sProp 𝕄} : Q a ⊢ Wp c (.ret a : Prog (TpuEff nD τ sig (Elt F) Λ₀ .tc) α) Q := by
  unfold Wp; rw [wp_ret]; iintro H; imodintro; iexact H

variable (m : (ℓ : Loc nD τ sig) → Buf (Elt F) ℓ) (ρ : Dev nD → PrngReg) (K : Dev nD × CI → ℕ) (c : Dev nD)

/-! ## What is stored is what the transfers carry -/

theorem val_one (d : Bool) (j : Fin 2) : sq (k0_pay7 (unsq (val m ρ (0, d, j) (back d c))) (partV m ρ c (ck d c 1) d j)) = val m ρ (1, d, j) c := rfl
theorem val_two (d : Bool) (j : Fin 2) : sq (k0_pay7 (unsq (val m ρ (1, d, j) (back d c))) (partV m ρ c (ck d c 2) d j)) = val m ρ (2, d, j) c := rfl
theorem val_three (d : Bool) (j : Fin 2) :
    k0_pay22 (k0_pay21 (unsq (val m ρ (2, d, j) (back d c))) (partV m ρ c (ck d c 3) d j)) = val m ρ (3, d, j) c := by
  have h : back d (ck d c 3) = c := (back_ck d c 3).trans (ck_four d c 0)
  show _ = outV m ρ (ck d c 3) d j
  unfold outV; rw [h]; rfl

/-- In the all-gather, what arrives at one stage is what leaves at the next. -/
theorem fwd_three (d : Bool) (j : Fin 2) : recvPay m ρ (3, d, j) c = sendPay m ρ (4, d, j) c := by
  show (ownsTc c (bandM oM (bd (ck d (back d c) 3) d j)) fullShare (outV m ρ (ck d (back d c) 3) d j) : sProp 𝕄)
    = ownsTc c (bandM oM (bd (ck d c 4) d j)) fullShare (outV m ρ (ck d c 4) d j)
  rw [ck_back]
theorem fwd_four (d : Bool) (j : Fin 2) : recvPay m ρ (4, d, j) c = sendPay m ρ (5, d, j) c := by
  show (ownsTc c (bandM oM (bd (ck d (back d c) 4) d j)) fullShare (outV m ρ (ck d (back d c) 4) d j) : sProp 𝕄)
    = ownsTc c (bandM oM (bd (ck d c 5) d j)) fullShare (outV m ρ (ck d c 5) d j)
  rw [ck_back]

/-- What arrived with transfer `t`, as the block it is loaded as. -/
abbrev got (t : Xfer) : Vec F S1x96x1536 .bf16 := unsq (val m ρ t (back t.2.1 c))
/-- The device's own product on sub-block `j` of half `d`, `k` chunks behind. -/
abbrev own (k : ℕ) (d : Bool) (j : Fin 2) : Vec F S96x1536 .bf16 := partV m ρ c (ck d c k) d j

abbrev cwS : Memref sig .tc .vmem S3x192x1536 .bf16 := Memref.whole cc0_scratch2
abbrev cwR : Memref sig .tc .vmem S3x192x1536 .bf16 := Memref.whole cc0_scratch3
abbrev ccwS : Memref sig .tc .vmem S3x192x1536 .bf16 := Memref.whole cc0_scratch4
abbrev ccwR : Memref sig .tc .vmem S3x192x1536 .bf16 := Memref.whole cc0_scratch5

/-- The credit of a band, however its offset is printed. -/
theorem credit_out {off : Fin 2 → ℕ} {inb : ∀ a, off a + S96x1536.size a ≤ S1536x1536.size a} {hr : ∀ a, (Rect.unit (s := S1536x1536) off S96x1536.size inb).stride a = 1} :
    (oM.slice (Rect.unit (s := S1536x1536) off S96x1536.size inb) hr).view.dmaCredit = N := rfl
theorem credit_part {off : Fin 2 → ℕ} {inb : ∀ a, off a + S96x1536.size a ≤ S1536x1536.size a} {hr : ∀ a, (Rect.unit (s := S1536x1536) off S96x1536.size inb).stride a = 1} :
    (pM.slice (Rect.unit (s := S1536x1536) off S96x1536.size inb) hr).view.dmaCredit = N := rfl

/-! ## The reduce-scatter -/

theorem part2 (v2 v4 : BitVec 32) {Q : (Σ' (_ : BitVec 32), FVec F S192x768 .bf16) → sProp 𝕄} :
    (St m ρ K c 0 0 0 2 1) ⊢ iprop((∀ a, St m ρ K c 2 0 0 2 1 -∗ Q ⟨a, k0_pay3 (rowsA m ρ c (hf c true))⟩) -∗ Wp c (withArgs k0_part2 c v2 v4) Q) := by
  rw [k0_part2_eq_skeleton]; unfold withArgs k0_part2_skel
  simp only [Prog.lift, Prog.bind_op, Prog.bind_ret, Prog.pure_eq_ret]
  iintro H Hk
  iapply (st_send m ρ K c _ (0, false, 0) rfl rfl (Fin.ext (k0_dev3_eq c)) (band_of pM (off3_bd c 0 0)) rfl rfl rfl) $$ H; iintro H
  iapply (st_send m ρ K c _ (0, false, 1) rfl rfl (Fin.ext (k0_dev4_eq c)) (band_of pM (off3_bd c 0 1)) rfl rfl rfl) $$ H; iintro H
  iapply (st_loadA m ρ K c (hf c true) (off1_hf c 1)) $$ H; iintro H
  iapply (wp_done c); iapply Hk; iexact H

theorem part3 (v2 v6 v54 : BitVec 32) (v57 : FVec F S192x768 .bf16) (hv : v57 = k0_pay3 (rowsA m ρ c (hf c true))) {Q : PUnit → sProp 𝕄} :
    (St m ρ K c 2 0 0 2 1) ⊢ iprop((St m ρ K c 3 0 0 4 2 -∗ Q ⟨⟩) -∗ Wp c (withArgs k0_part3 c v2 v6 v54 v57) Q) := by
  rw [k0_part3_eq_skeleton]; unfold withArgs k0_part3_skel
  simp only [Prog.lift, Prog.bind_op, Prog.bind_ret, Prog.pure_eq_ret]
  iintro H Hk
  subst hv
  iapply (st_loadB m ρ K c) $$ H; iintro H
  iapply (st_loadHalf m ρ K c (0, true) rfl (off2_hf c 1)) $$ H; iintro %X H
  iapply (st_storeHalf0 m ρ K c 1 true (by decide) rfl (by decide) rfl (off2_hf c 1) rfl) $$ H; iintro H
  iapply (st_send m ρ K c _ (0, true, 0) rfl rfl (Fin.ext (k0_dev5_eq c)) (band_of pM (off3_bd c 1 0)) rfl rfl rfl) $$ H; iintro H
  iapply (wp_done c); iapply Hk; iexact H

theorem part4 (v2 : BitVec 32) {Q : (Σ' (_ : BitVec 32), BitVec 32) → sProp 𝕄} :
    (St m ρ K c 3 0 0 4 2) ⊢ iprop((∀ a b, St m ρ K c 4 0 0 4 4 -∗ Q ⟨a, b⟩) -∗ Wp c (withArgs k0_part4 c v2) Q) := by
  rw [k0_part4_eq_skeleton]; unfold withArgs k0_part4_skel
  simp only [Prog.lift, Prog.bind_op, Prog.bind_ret, Prog.pure_eq_ret]
  iintro H Hk
  iapply (st_send m ρ K c _ (0, true, 1) rfl rfl (Fin.ext (k0_dev6_eq c)) (band_of pM (off3_bd c 1 1)) rfl rfl rfl) $$ H; iintro H
  iapply (st_loadA m ρ K c (hf (ck false c 1) false) (off4_hf c 2)) $$ H; iintro H
  iapply (st_loadB m ρ K c) $$ H; iintro H
  iapply (st_loadHalf m ρ K c (1, false) rfl (off5_hf c 2)) $$ H; iintro %X H
  iapply (st_storeHalf m ρ K c 2 (1, false) rfl rfl (off5_hf c 2) rfl) $$ H; iintro H
  iapply (st_loadA m ρ K c (hf (ck true c 1) true) (off6_hf c 0)) $$ H; iintro H
  iapply (st_loadB m ρ K c) $$ H; iintro H
  iapply (st_loadHalf m ρ K c (1, true) rfl (off7_hf c 0)) $$ H; iintro %X H
  iapply (st_storeHalf m ρ K c 3 (1, true) rfl rfl (off7_hf c 0) rfl) $$ H; iintro H
  iapply (wp_done c); iapply Hk; iexact H

theorem part5 (v2 v4 v120 : BitVec 32) {Q : (Σ' (_ : BitVec 32) (_ : BitVec 32) (_ : BitVec 32), FVec F S1x96x1536 .bf16) → sProp 𝕄} :
    (St m ρ K c 4 0 0 4 4) ⊢ iprop((∀ x y z, St m ρ K c 4 1 0 4 4 -∗ Q ⟨x, y, z, k0_pay7 (got m ρ c (0, false, 0)) (own m ρ c 1 false 0)⟩) -∗ Wp c (withArgs k0_part5 c v2 v4 v120) Q) := by
  rw [k0_part5_eq_skeleton]; unfold withArgs k0_part5_skel
  simp only [Prog.lift, Prog.bind_op, Prog.bind_ret, Prog.pure_eq_ret]
  iintro H Hk
  iapply (st_recv m ρ K c (0, false, 0) rfl (by decide) rfl (slot_credit false 0 0).2 rfl) $$ H; iintro H
  iapply (st_loadRecv m ρ K c (0, false, 0) (by decide) cwR rfl rfl) $$ H; iintro H
  iapply (st_loadPart m ρ K c (1, false, 0) (by decide) (off8_bd c 2 0)) $$ H; iintro H
  iapply (st_loadSlot m ρ K c (1, false, 0) rfl cwS rfl rfl) $$ H; iintro %X H
  iapply (wp_done c); iapply Hk; iexact H

theorem part6 (v2 v4 v6 : BitVec 32) (v150 : FVec F S1x96x1536 .bf16) (hv : sq v150 = val m ρ (1, false, 0) c) {Q : (Σ' (_ : FVec F S96x1536 .f32), BitVec 32) → sProp 𝕄} :
    (St m ρ K c 4 1 0 4 4) ⊢ iprop((∀ x, St m ρ K c 5 2 0 5 4 -∗ Q ⟨k0_pay8 (got m ρ c (0, true, 0)), x⟩) -∗ Wp c (withArgs k0_part6 c v2 v4 v6 v150) Q) := by
  rw [k0_part6_eq_skeleton]; unfold withArgs k0_part6_skel
  simp only [Prog.lift, Prog.bind_op, Prog.bind_ret, Prog.pure_eq_ret]
  iintro H Hk
  iapply (st_storeSlot m ρ K c (1, false, 0) rfl rfl cwS rfl rfl hv) $$ H; iintro H
  iapply (st_send m ρ K c _ (1, false, 0) rfl rfl (Fin.ext (k0_dev7_eq c)) rfl rfl rfl rfl) $$ H; iintro H
  iapply (st_recv m ρ K c (0, true, 0) rfl (by decide) rfl (slot_credit true 0 0).2 rfl) $$ H; iintro H
  iapply (st_loadRecv m ρ K c (0, true, 0) (by decide) ccwR rfl rfl) $$ H; iintro H
  iapply (wp_done c); iapply Hk; iexact H

theorem part7 (v6 v119 v176 : BitVec 32) (v170 : FVec F S96x1536 .f32) (hv : v170 = k0_pay8 (got m ρ c (0, true, 0))) {Q : PUnit → sProp 𝕄} :
    (St m ρ K c 5 2 0 5 4) ⊢ iprop((St m ρ K c 6 2 0 6 5 -∗ Q ⟨⟩) -∗ Wp c (withArgs k0_part7 c v6 v119 v170 v176) Q) := by
  rw [k0_part7_eq_skeleton]; unfold withArgs k0_part7_skel
  simp only [Prog.lift, Prog.bind_op, Prog.bind_ret, Prog.pure_eq_ret]
  iintro H Hk
  subst hv
  iapply (st_loadPart m ρ K c (1, true, 0) (by decide) (off9_bd c 0 0)) $$ H; iintro H
  iapply (st_loadSlot m ρ K c (1, true, 0) rfl ccwS rfl rfl) $$ H; iintro %X H
  iapply (st_storeSlot m ρ K c (1, true, 0) rfl rfl ccwS rfl rfl (val_one m ρ c true 0)) $$ H; iintro H
  iapply (st_send m ρ K c _ (1, true, 0) rfl rfl (Fin.ext (k0_dev8_eq c)) rfl rfl rfl rfl) $$ H; iintro H
  iapply (st_loadA m ρ K c (hf (ck false c 2) false) (off4_hf c 1)) $$ H; iintro H
  iapply (st_loadB m ρ K c) $$ H; iintro H
  iapply (st_loadHalf m ρ K c (2, false) rfl (off5_hf c 1)) $$ H; iintro %X H
  iapply (st_storeHalf m ρ K c 4 (2, false) rfl rfl (off5_hf c 1) rfl) $$ H; iintro H
  iapply (wp_done c); iapply Hk; iexact H

theorem part8 (v2 v4 : BitVec 32) {Q : PUnit → sProp 𝕄} :
    (St m ρ K c 6 2 0 6 5) ⊢ iprop((St m ρ K c 6 3 0 7 5 -∗ Q ⟨⟩) -∗ Wp c (withArgs k0_part8 c v2 v4) Q) := by
  rw [k0_part8_eq_skeleton]; unfold withArgs k0_part8_skel
  simp only [Prog.lift, Prog.bind_op, Prog.bind_ret, Prog.pure_eq_ret]
  iintro H Hk
  iapply (st_recv m ρ K c (0, false, 1) rfl (by decide) rfl (slot_credit false 0 1).2 rfl) $$ H; iintro H
  iapply (st_loadRecv m ρ K c (0, false, 1) (by decide) cwR rfl rfl) $$ H; iintro H
  iapply (st_loadPart m ρ K c (1, false, 1) (by decide) (off8_bd c 2 1)) $$ H; iintro H
  iapply (st_loadSlot m ρ K c (1, false, 1) rfl cwS rfl rfl) $$ H; iintro %X H
  iapply (st_storeSlot m ρ K c (1, false, 1) rfl rfl cwS rfl rfl (val_one m ρ c false 1)) $$ H; iintro H
  iapply (wp_done c); iapply Hk; iexact H

theorem part9 (v2 v6 : BitVec 32) {Q : PUnit → sProp 𝕄} :
    (St m ρ K c 6 3 0 7 5) ⊢ iprop((St m ρ K c 7 4 0 8 5 -∗ Q ⟨⟩) -∗ Wp c (withArgs k0_part9 c v2 v6) Q) := by
  rw [k0_part9_eq_skeleton]; unfold withArgs k0_part9_skel
  simp only [Prog.lift, Prog.bind_op, Prog.bind_ret, Prog.pure_eq_ret]
  iintro H Hk
  iapply (st_send m ρ K c _ (1, false, 1) rfl rfl (Fin.ext (k0_dev9_eq c)) rfl rfl rfl rfl) $$ H; iintro H
  iapply (st_recv m ρ K c (0, true, 1) rfl (by decide) rfl (slot_credit true 0 1).2 rfl) $$ H; iintro H
  iapply (st_loadRecv m ρ K c (0, true, 1) (by decide) ccwR rfl rfl) $$ H; iintro H
  iapply (st_loadPart m ρ K c (1, true, 1) (by decide) (off9_bd c 0 1)) $$ H; iintro H
  iapply (st_loadSlot m ρ K c (1, true, 1) rfl ccwS rfl rfl) $$ H; iintro %X H
  iapply (st_storeSlot m ρ K c (1, true, 1) rfl rfl ccwS rfl rfl (val_one m ρ c true 1)) $$ H; iintro H
  iapply (wp_done c); iapply Hk; iexact H

theorem part10 (v4 v6 v122 : BitVec 32) {Q : PUnit → sProp 𝕄} :
    (St m ρ K c 7 4 0 8 5) ⊢ iprop((St m ρ K c 8 5 0 8 6 -∗ Q ⟨⟩) -∗ Wp c (withArgs k0_part10 c v4 v6 v122) Q) := by
  rw [k0_part10_eq_skeleton]; unfold withArgs k0_part10_skel
  simp only [Prog.lift, Prog.bind_op, Prog.bind_ret, Prog.pure_eq_ret]
  iintro H Hk
  iapply (st_send m ρ K c _ (1, true, 1) rfl rfl (Fin.ext (k0_dev10_eq c)) rfl rfl rfl rfl) $$ H; iintro H
  iapply (st_loadA m ρ K c (hf (ck true c 2) true) (off6_hf c 1)) $$ H; iintro H
  iapply (st_loadB m ρ K c) $$ H; iintro H
  iapply (st_loadHalf m ρ K c (2, true) rfl (off7_hf c 1)) $$ H; iintro %X H
  iapply (st_storeHalf m ρ K c 5 (2, true) rfl rfl (off7_hf c 1) rfl) $$ H; iintro H
  iapply (st_recv m ρ K c (1, false, 0) rfl (by decide) rfl (slot_credit false 1 0).2 rfl) $$ H; iintro H
  iapply (wp_done c); iapply Hk; iexact H

theorem part11 (v2 v4 v6 : BitVec 32) {Q : (Σ' (_ : BitVec 32), BitVec 32) → sProp 𝕄} :
    (St m ρ K c 8 5 0 8 6) ⊢ iprop((∀ x y, St m ρ K c 9 5 0 9 6 -∗ Q ⟨x, y⟩) -∗ Wp c (withArgs k0_part11 c v2 v4 v6) Q) := by
  rw [k0_part11_eq_skeleton]; unfold withArgs k0_part11_skel
  simp only [Prog.lift, Prog.bind_op, Prog.bind_ret, Prog.pure_eq_ret]
  iintro H Hk
  iapply (st_loadRecv m ρ K c (1, false, 0) (by decide) cwR rfl rfl) $$ H; iintro H
  iapply (st_loadPart m ρ K c (2, false, 0) (by decide) (off8_bd c 1 0)) $$ H; iintro H
  iapply (st_loadSlot m ρ K c (2, false, 0) rfl cwS rfl rfl) $$ H; iintro %X H
  iapply (st_storeSlot m ρ K c (2, false, 0) rfl rfl cwS rfl rfl (val_two m ρ c false 0)) $$ H; iintro H
  iapply (st_send m ρ K c _ (2, false, 0) rfl rfl (Fin.ext (k0_dev11_eq c)) rfl rfl rfl rfl) $$ H; iintro H
  iapply (wp_done c); iapply Hk; iexact H

theorem part12 (v2 v6 v320 c0 : BitVec 32) {Q : PUnit → sProp 𝕄} :
    (St m ρ K c 9 5 0 9 6) ⊢ iprop((St m ρ K c 9 6 0 10 6 -∗ Q ⟨⟩) -∗ Wp c (withArgs k0_part12 c v2 v6 v320 c0) Q) := by
  rw [k0_part12_eq_skeleton]; unfold withArgs k0_part12_skel
  simp only [Prog.lift, Prog.bind_op, Prog.bind_ret, Prog.pure_eq_ret]
  iintro H Hk
  iapply (st_recv m ρ K c (1, true, 0) rfl (by decide) rfl (slot_credit true 1 0).2 rfl) $$ H; iintro H
  iapply (st_loadRecv m ρ K c (1, true, 0) (by decide) ccwR rfl rfl) $$ H; iintro H
  iapply (st_loadPart m ρ K c (2, true, 0) (by decide) (off9_bd c 1 0)) $$ H; iintro H
  iapply (st_loadSlot m ρ K c (2, true, 0) rfl ccwS rfl rfl) $$ H; iintro %X H
  iapply (st_storeSlot m ρ K c (2, true, 0) rfl rfl ccwS rfl rfl (val_two m ρ c true 0)) $$ H; iintro H
  iapply (wp_done c); iapply Hk; iexact H

theorem part13 (v2 v4 v124 : BitVec 32) {Q : (Σ' (_ : FVec F S96x1536 .f32) (_ : BitVec 32), BitVec 32) → sProp 𝕄} :
    (St m ρ K c 9 6 0 10 6) ⊢ iprop((∀ x y, St m ρ K c 10 7 0 10 7 -∗ Q ⟨k0_pay17 (got m ρ c (1, false, 1)), x, y⟩) -∗ Wp c (withArgs k0_part13 c v2 v4 v124) Q) := by
  rw [k0_part13_eq_skeleton]; unfold withArgs k0_part13_skel
  simp only [Prog.lift, Prog.bind_op, Prog.bind_ret, Prog.pure_eq_ret]
  iintro H Hk
  iapply (st_send m ρ K c _ (2, true, 0) rfl rfl (Fin.ext (k0_dev12_eq c)) rfl rfl rfl rfl) $$ H; iintro H
  iapply (st_loadA m ρ K c (hf (ck false c 3) false) (off4_hf c 0)) $$ H; iintro H
  iapply (st_loadB m ρ K c) $$ H; iintro H
  iapply (st_loadHalf m ρ K c (3, false) rfl (off5_hf c 0)) $$ H; iintro %X H
  iapply (st_storeHalf m ρ K c 6 (3, false) rfl rfl (off5_hf c 0) rfl) $$ H; iintro H
  iapply (st_recv m ρ K c (1, false, 1) rfl (by decide) rfl (slot_credit false 1 1).2 rfl) $$ H; iintro H
  iapply (st_loadRecv m ρ K c (1, false, 1) (by decide) cwR rfl rfl) $$ H; iintro H
  iapply (wp_done c); iapply Hk; iexact H

theorem part14 (v4 v6 v380 c0 : BitVec 32) (v377 : FVec F S96x1536 .f32) (hv : v377 = k0_pay17 (got m ρ c (1, false, 1))) {Q : PUnit → sProp 𝕄} :
    (St m ρ K c 10 7 0 10 7) ⊢ iprop((St m ρ K c 11 8 0 11 7 -∗ Q ⟨⟩) -∗ Wp c (withArgs k0_part14 c v4 v6 v377 v380 c0) Q) := by
  rw [k0_part14_eq_skeleton]; unfold withArgs k0_part14_skel
  simp only [Prog.lift, Prog.bind_op, Prog.bind_ret, Prog.pure_eq_ret]
  iintro H Hk
  subst hv
  iapply (st_loadPart m ρ K c (2, false, 1) (by decide) (off8_bd c 1 1)) $$ H; iintro H
  iapply (st_loadSlot m ρ K c (2, false, 1) rfl cwS rfl rfl) $$ H; iintro %X H
  iapply (st_storeSlot m ρ K c (2, false, 1) rfl rfl cwS rfl rfl (val_two m ρ c false 1)) $$ H; iintro H
  iapply (st_send m ρ K c _ (2, false, 1) rfl rfl (Fin.ext (k0_dev13_eq c)) rfl rfl rfl rfl) $$ H; iintro H
  iapply (st_recv m ρ K c (1, true, 1) rfl (by decide) rfl (slot_credit true 1 1).2 rfl) $$ H; iintro H
  iapply (wp_done c); iapply Hk; iexact H

theorem part15 (v2 v6 v127 : BitVec 32) {Q : BitVec 32 → sProp 𝕄} :
    (St m ρ K c 11 8 0 11 7) ⊢ iprop((∀ x, St m ρ K c 12 8 0 12 7 -∗ Q x) -∗ Wp c (withArgs k0_part15 c v2 v6 v127) Q) := by
  rw [k0_part15_eq_skeleton]; unfold withArgs k0_part15_skel
  simp only [Prog.lift, Prog.bind_op, Prog.bind_ret, Prog.pure_eq_ret]
  iintro H Hk
  iapply (st_loadRecv m ρ K c (1, true, 1) (by decide) ccwR rfl rfl) $$ H; iintro H
  iapply (st_loadPart m ρ K c (2, true, 1) (by decide) (off9_bd c 1 1)) $$ H; iintro H
  iapply (st_loadSlot m ρ K c (2, true, 1) rfl ccwS rfl rfl) $$ H; iintro %X H
  iapply (st_storeSlot m ρ K c (2, true, 1) rfl rfl ccwS rfl rfl (val_two m ρ c true 1)) $$ H; iintro H
  iapply (st_send m ρ K c _ (2, true, 1) rfl rfl (Fin.ext (k0_dev14_eq c)) rfl rfl rfl rfl) $$ H; iintro H
  iapply (wp_done c); iapply Hk; iexact H

theorem part16 (v2 v4 v437 : BitVec 32) {Q : (Σ' (_ : FVec F S96x1536 .f32), BitVec 32) → sProp 𝕄} :
    (St m ρ K c 12 8 0 12 7) ⊢ iprop((∀ x, St m ρ K c 12 9 0 12 8 -∗ Q ⟨k0_pay21 (got m ρ c (2, false, 0)) (own m ρ c 3 false 0), x⟩) -∗ Wp c (withArgs k0_part16 c v2 v4 v437) Q) := by
  rw [k0_part16_eq_skeleton]; unfold withArgs k0_part16_skel
  simp only [Prog.lift, Prog.bind_op, Prog.bind_ret, Prog.pure_eq_ret]
  iintro H Hk
  iapply (st_loadA m ρ K c (hf (ck true c 3) true) (off6_hf c 2)) $$ H; iintro H
  iapply (st_loadB m ρ K c) $$ H; iintro H
  iapply (st_loadHalf m ρ K c (3, true) rfl (off7_hf c 2)) $$ H; iintro %X H
  iapply (st_storeHalf m ρ K c 7 (3, true) rfl rfl (off7_hf c 2) rfl) $$ H; iintro H
  iapply (st_recv m ρ K c (2, false, 0) rfl (by decide) rfl (slot_credit false 2 0).2 rfl) $$ H; iintro H
  iapply (st_loadRecv m ρ K c (2, false, 0) (by decide) cwR rfl rfl) $$ H; iintro H
  iapply (st_loadPart m ρ K c (3, false, 0) (by decide) (off8_bd c 0 0)) $$ H; iintro H
  iapply (wp_done c); iapply Hk; iexact H

theorem part17 (v2 v4 v469 : BitVec 32) (v467 : FVec F S96x1536 .f32) (hv : v467 = k0_pay21 (got m ρ c (2, false, 0)) (own m ρ c 3 false 0)) {Q : PUnit → sProp 𝕄} :
    (St m ρ K c 12 9 0 12 8) ⊢ iprop((St m ρ K c 13 9 0 13 8 -∗ Q ⟨⟩) -∗ Wp c (withArgs k0_part17 c v2 v4 v467 v469) Q) := by
  rw [k0_part17_eq_skeleton]; unfold withArgs k0_part17_skel
  simp only [Prog.lift, Prog.bind_op, Prog.bind_ret, Prog.pure_eq_ret]
  iintro H Hk
  subst hv
  iapply (st_loadOut m ρ K c (3, false, 0) rfl rfl (off8_cw c 0)) $$ H; iintro %X H
  iapply (st_storeOut m ρ K c (3, false, 0) rfl rfl rfl (off8_cw c 0) (val_three m ρ c false 0)) $$ H; iintro H
  iapply (st_send m ρ K c _ (3, false, 0) rfl rfl (Fin.ext (k0_dev15_eq c)) (band_of oM (off10_cw c 2 0)) (band_of oM (off10_cw c 2 0)) rfl rfl) $$ H; iintro H
  iapply (wp_done c); iapply Hk; iexact H

theorem part18 (v2 v6 : BitVec 32) {Q : (Σ' (_ : BitVec 32), FVec F S96x1536 .f32) → sProp 𝕄} :
    (St m ρ K c 13 9 0 13 8) ⊢ iprop((∀ x, St m ρ K c 13 10 0 13 8 -∗ Q ⟨x, k0_pay23 (got m ρ c (2, true, 0)) (own m ρ c 3 true 0)⟩) -∗ Wp c (withArgs k0_part18 c v2 v6) Q) := by
  rw [k0_part18_eq_skeleton]; unfold withArgs k0_part18_skel
  simp only [Prog.lift, Prog.bind_op, Prog.bind_ret, Prog.pure_eq_ret]
  iintro H Hk
  iapply (st_recv m ρ K c (2, true, 0) rfl (by decide) rfl (slot_credit true 2 0).2 rfl) $$ H; iintro H
  iapply (st_loadRecv m ρ K c (2, true, 0) (by decide) ccwR rfl rfl) $$ H; iintro H
  iapply (st_loadPart m ρ K c (3, true, 0) (by decide) (off9_bd c 2 0)) $$ H; iintro H
  iapply (wp_done c); iapply Hk; iexact H

theorem part19 (v2 v4 v6 v524 : BitVec 32) (v537 : FVec F S96x1536 .f32) (hv : v537 = k0_pay23 (got m ρ c (2, true, 0)) (own m ρ c 3 true 0)) {Q : PUnit → sProp 𝕄} :
    (St m ρ K c 13 10 0 13 8) ⊢ iprop((St m ρ K c 14 11 0 14 8 -∗ Q ⟨⟩) -∗ Wp c (withArgs k0_part19 c v2 v4 v6 v524 v537) Q) := by
  rw [k0_part19_eq_skeleton]; unfold withArgs k0_part19_skel
  simp only [Prog.lift, Prog.bind_op, Prog.bind_ret, Prog.pure_eq_ret]
  iintro H Hk
  subst hv
  iapply (st_loadOut m ρ K c (3, true, 0) rfl rfl (off8_ccw c 0)) $$ H; iintro %X H
  iapply (st_storeOut m ρ K c (3, true, 0) rfl rfl rfl (off8_ccw c 0) (val_three m ρ c true 0)) $$ H; iintro H
  iapply (st_send m ρ K c _ (3, true, 0) rfl rfl (Fin.ext (k0_dev16_eq c)) (band_of oM (off10_ccw c 0 0)) (band_of oM (off10_ccw c 0 0)) rfl rfl) $$ H; iintro H
  iapply (st_recv m ρ K c (2, false, 1) rfl (by decide) rfl (slot_credit false 2 1).2 rfl) $$ H; iintro H
  iapply (wp_done c); iapply Hk; iexact H

theorem part20 (v2 : BitVec 32) {Q : BitVec 32 → sProp 𝕄} :
    (St m ρ K c 14 11 0 14 8) ⊢ iprop((∀ x, St m ρ K c 14 11 0 15 8 -∗ Q x) -∗ Wp c (withArgs k0_part20 c v2) Q) := by
  rw [k0_part20_eq_skeleton]; unfold withArgs k0_part20_skel
  simp only [Prog.lift, Prog.bind_op, Prog.bind_ret, Prog.pure_eq_ret]
  iintro H Hk
  iapply (st_loadRecv m ρ K c (2, false, 1) (by decide) cwR rfl rfl) $$ H; iintro H
  iapply (st_loadPart m ρ K c (3, false, 1) (by decide) (off8_bd c 0 1)) $$ H; iintro H
  iapply (st_loadOut m ρ K c (3, false, 1) rfl rfl (off8_cw c 1)) $$ H; iintro %X H
  iapply (st_storeOut m ρ K c (3, false, 1) rfl rfl rfl (off8_cw c 1) (val_three m ρ c false 1)) $$ H; iintro H
  iapply (wp_done c); iapply Hk; iexact H

theorem part21 (v2 v4 v6 v601 : BitVec 32) {Q : (FVec F S96x1536 .f32) → sProp 𝕄} :
    (St m ρ K c 14 11 0 15 8) ⊢ iprop((St m ρ K c 15 12 0 15 8 -∗ Q (k0_pay26 (got m ρ c (2, true, 1)))) -∗ Wp c (withArgs k0_part21 c v2 v4 v6 v601) Q) := by
  rw [k0_part21_eq_skeleton]; unfold withArgs k0_part21_skel
  simp only [Prog.lift, Prog.bind_op, Prog.bind_ret, Prog.pure_eq_ret]
  iintro H Hk
  iapply (st_send m ρ K c _ (3, false, 1) rfl rfl (Fin.ext (k0_dev17_eq c)) (band_of oM (off10_cw c 2 1)) (band_of oM (off10_cw c 2 1)) rfl rfl) $$ H; iintro H
  iapply (st_recv m ρ K c (2, true, 1) rfl (by decide) rfl (slot_credit true 2 1).2 rfl) $$ H; iintro H
  iapply (st_loadRecv m ρ K c (2, true, 1) (by decide) ccwR rfl rfl) $$ H; iintro H
  iapply (wp_done c); iapply Hk; iexact H

theorem part22 (v2 v6 : BitVec 32) (v621 : FVec F S96x1536 .f32) (hv : v621 = k0_pay26 (got m ρ c (2, true, 1))) {Q : PUnit → sProp 𝕄} :
    (St m ρ K c 15 12 0 15 8) ⊢ iprop((St m ρ K c 15 12 0 16 8 -∗ Q ⟨⟩) -∗ Wp c (withArgs k0_part22 c v2 v6 v621) Q) := by
  rw [k0_part22_eq_skeleton]; unfold withArgs k0_part22_skel
  simp only [Prog.lift, Prog.bind_op, Prog.bind_ret, Prog.pure_eq_ret]
  iintro H Hk
  subst hv
  iapply (st_loadPart m ρ K c (3, true, 1) (by decide) (off9_bd c 2 1)) $$ H; iintro H
  iapply (st_loadOut m ρ K c (3, true, 1) rfl rfl (off8_ccw c 1)) $$ H; iintro %X H
  iapply (st_storeOut m ρ K c (3, true, 1) rfl rfl rfl (off8_ccw c 1) (val_three m ρ c true 1)) $$ H; iintro H
  iapply (wp_done c); iapply Hk; iexact H

/-! ## The all-gather -/

theorem part23 (v2 v4 v6 : BitVec 32) {Q : BitVec 32 → sProp 𝕄} :
    (St m ρ K c 15 12 0 16 8) ⊢ iprop((∀ x, St m ρ K c 17 14 0 18 8 -∗ Q x) -∗ Wp c (withArgs k0_part23 c v2 v4 v6) Q) := by
  rw [k0_part23_eq_skeleton]; unfold withArgs k0_part23_skel
  simp only [Prog.lift, Prog.bind_op, Prog.bind_ret, Prog.pure_eq_ret]
  iintro H Hk
  iapply (st_send m ρ K c _ (3, true, 1) rfl rfl (Fin.ext (k0_dev18_eq c)) (band_of oM (off10_ccw c 0 1)) (band_of oM (off10_ccw c 0 1)) rfl rfl) $$ H; iintro H
  iapply (st_recv_fwd m ρ K c (3, false, 0) (4, false, 0) rfl (by decide) rfl rfl rfl (fwd_three m ρ c false 0) credit_out rfl) $$ H; iintro H
  iapply (st_send m ρ K c _ (4, false, 0) rfl rfl (Fin.ext (k0_dev19_eq c)) (band_of oM (off10_cw c 1 0)) (band_of oM (off10_cw c 1 0)) rfl rfl) $$ H; iintro H
  iapply (st_recv_fwd m ρ K c (3, true, 0) (4, true, 0) rfl (by decide) rfl rfl rfl (fwd_three m ρ c true 0) credit_out rfl) $$ H; iintro H
  iapply (wp_done c); iapply Hk; iexact H

theorem part24 (v2 v4 v6 c4 : BitVec 32) {Q : PUnit → sProp 𝕄} :
    (St m ρ K c 17 14 0 18 8) ⊢ iprop((St m ρ K c 18 15 0 19 8 -∗ Q ⟨⟩) -∗ Wp c (withArgs k0_part24 c v2 v4 v6 c4) Q) := by
  rw [k0_part24_eq_skeleton]; unfold withArgs k0_part24_skel
  simp only [Prog.lift, Prog.bind_op, Prog.bind_ret, Prog.pure_eq_ret]
  iintro H Hk
  iapply (st_send m ρ K c _ (4, true, 0) rfl rfl (Fin.ext (k0_dev20_eq c)) (band_of oM (off10_ccw c 1 0)) (band_of oM (off10_ccw c 1 0)) rfl rfl) $$ H; iintro H
  iapply (st_recv_fwd m ρ K c (3, false, 1) (4, false, 1) rfl (by decide) rfl rfl rfl (fwd_three m ρ c false 1) credit_out rfl) $$ H; iintro H
  iapply (wp_done c); iapply Hk; iexact H

theorem part25 (v2 v4 v6 : BitVec 32) {Q : PUnit → sProp 𝕄} :
    (St m ρ K c 18 15 0 19 8) ⊢ iprop((St m ρ K c 20 16 0 20 8 -∗ Q ⟨⟩) -∗ Wp c (withArgs k0_part25 c v2 v4 v6) Q) := by
  rw [k0_part25_eq_skeleton]; unfold withArgs k0_part25_skel
  simp only [Prog.lift, Prog.bind_op, Prog.bind_ret, Prog.pure_eq_ret]
  iintro H Hk
  iapply (st_send m ρ K c _ (4, false, 1) rfl rfl (Fin.ext (k0_dev21_eq c)) (band_of oM (off10_cw c 1 1)) (band_of oM (off10_cw c 1 1)) rfl rfl) $$ H; iintro H
  iapply (st_recv_fwd m ρ K c (3, true, 1) (4, true, 1) rfl (by decide) rfl rfl rfl (fwd_three m ρ c true 1) credit_out rfl) $$ H; iintro H
  iapply (st_send m ρ K c _ (4, true, 1) rfl rfl (Fin.ext (k0_dev22_eq c)) (band_of oM (off10_ccw c 1 1)) (band_of oM (off10_ccw c 1 1)) rfl rfl) $$ H; iintro H
  iapply (wp_done c); iapply Hk; iexact H

theorem part26 (v2 v4 v6 : BitVec 32) {Q : PUnit → sProp 𝕄} :
    (St m ρ K c 20 16 0 20 8) ⊢ iprop((St m ρ K c 21 18 0 22 8 -∗ Q ⟨⟩) -∗ Wp c (withArgs k0_part26 c v2 v4 v6) Q) := by
  rw [k0_part26_eq_skeleton]; unfold withArgs k0_part26_skel
  simp only [Prog.lift, Prog.bind_op, Prog.bind_ret, Prog.pure_eq_ret]
  iintro H Hk
  iapply (st_recv_fwd m ρ K c (4, false, 0) (5, false, 0) rfl (by decide) rfl rfl rfl (fwd_four m ρ c false 0) credit_out rfl) $$ H; iintro H
  iapply (st_send m ρ K c _ (5, false, 0) rfl rfl (Fin.ext (k0_dev23_eq c)) (band_of oM (off10_cw c 0 0)) (band_of oM (off10_cw c 0 0)) rfl rfl) $$ H; iintro H
  iapply (st_recv_fwd m ρ K c (4, true, 0) (5, true, 0) rfl (by decide) rfl rfl rfl (fwd_four m ρ c true 0) credit_out rfl) $$ H; iintro H
  iapply (wp_done c); iapply Hk; iexact H

theorem part27 (v2 v4 v6 : BitVec 32) {Q : PUnit → sProp 𝕄} :
    (St m ρ K c 21 18 0 22 8) ⊢ iprop((St m ρ K c 23 19 0 23 8 -∗ Q ⟨⟩) -∗ Wp c (withArgs k0_part27 c v2 v4 v6) Q) := by
  rw [k0_part27_eq_skeleton]; unfold withArgs k0_part27_skel
  simp only [Prog.lift, Prog.bind_op, Prog.bind_ret, Prog.pure_eq_ret]
  iintro H Hk
  iapply (st_send m ρ K c _ (5, true, 0) rfl rfl (Fin.ext (k0_dev24_eq c)) (band_of oM (off10_ccw c 2 0)) (band_of oM (off10_ccw c 2 0)) rfl rfl) $$ H; iintro H
  iapply (st_recv_fwd m ρ K c (4, false, 1) (5, false, 1) rfl (by decide) rfl rfl rfl (fwd_four m ρ c false 1) credit_out rfl) $$ H; iintro H
  iapply (st_send m ρ K c _ (5, false, 1) rfl rfl (Fin.ext (k0_dev25_eq c)) (band_of oM (off10_cw c 0 1)) (band_of oM (off10_cw c 0 1)) rfl rfl) $$ H; iintro H
  iapply (wp_done c); iapply Hk; iexact H

theorem part28 (v2 v4 v6 : BitVec 32) {Q : (Σ' (_ : BitVec 32), BitVec 32) → sProp 𝕄} :
    (St m ρ K c 23 19 0 23 8) ⊢ iprop((∀ x y, St m ρ K c 24 21 0 24 8 -∗ Q ⟨x, y⟩) -∗ Wp c (withArgs k0_part28 c v2 v4 v6) Q) := by
  rw [k0_part28_eq_skeleton]; unfold withArgs k0_part28_skel
  simp only [Prog.lift, Prog.bind_op, Prog.bind_ret, Prog.pure_eq_ret]
  iintro H Hk
  iapply (st_recv_fwd m ρ K c (4, true, 1) (5, true, 1) rfl (by decide) rfl rfl rfl (fwd_four m ρ c true 1) credit_out rfl) $$ H; iintro H
  iapply (st_send m ρ K c _ (5, true, 1) rfl rfl (Fin.ext (k0_dev26_eq c)) (band_of oM (off10_ccw c 2 1)) (band_of oM (off10_ccw c 2 1)) rfl rfl) $$ H; iintro H
  iapply (st_recv m ρ K c (5, false, 0) rfl (by decide) rfl credit_out rfl) $$ H; iintro H
  iapply (wp_done c); iapply Hk; iexact H

/-! ## The departures -/

theorem part29 (v4 v6 v824 c0 : BitVec 32) {Q : PUnit → sProp 𝕄} :
    (St m ρ K c 24 21 0 24 8) ⊢ iprop((St m ρ K c 24 24 1 24 8 -∗ Q ⟨⟩) -∗ Wp c (withArgs k0_part29 c v4 v6 v824 c0) Q) := by
  rw [k0_part29_eq_skeleton]; unfold withArgs k0_part29_skel
  simp only [Prog.lift, Prog.bind_op, Prog.bind_ret, Prog.pure_eq_ret]
  iintro H Hk
  iapply (st_recv m ρ K c (5, true, 0) rfl (by decide) rfl credit_out rfl) $$ H; iintro H
  iapply (st_recv m ρ K c (5, false, 1) rfl (by decide) rfl credit_out rfl) $$ H; iintro H
  iapply (st_recv m ρ K c (5, true, 1) rfl (by decide) rfl credit_out rfl) $$ H; iintro H
  iapply (st_sent m ρ K c (0, false, 0) rfl credit_part rfl) $$ H; iintro H
  iapply (wp_done c); iapply Hk; iexact H

theorem part30 {Q : PUnit → sProp 𝕄} :
    (St m ρ K c 24 24 1 24 8) ⊢ iprop((St m ρ K c 24 24 5 24 8 -∗ Q ⟨⟩) -∗ Wp c (withArgs k0_part30 c) Q) := by
  rw [k0_part30_eq_skeleton]; unfold withArgs k0_part30_skel
  simp only [Prog.lift, Prog.bind_op, Prog.bind_ret, Prog.pure_eq_ret]
  iintro H Hk
  iapply (st_sent m ρ K c (0, false, 1) rfl credit_part rfl) $$ H; iintro H
  iapply (st_sent m ρ K c (0, true, 0) rfl credit_part rfl) $$ H; iintro H
  iapply (st_sent m ρ K c (0, true, 1) rfl credit_part rfl) $$ H; iintro H
  iapply (st_sent m ρ K c (1, false, 0) rfl (slot_credit false 1 0).1 rfl) $$ H; iintro H
  iapply (wp_done c); iapply Hk; iexact H

theorem part31 {Q : PUnit → sProp 𝕄} :
    (St m ρ K c 24 24 5 24 8) ⊢ iprop((St m ρ K c 24 24 8 24 8 -∗ Q ⟨⟩) -∗ Wp c (withArgs k0_part31) Q) := by
  rw [k0_part31_eq_skeleton]; unfold withArgs k0_part31_skel
  simp only [Prog.lift, Prog.bind_op, Prog.bind_ret, Prog.pure_eq_ret]
  iintro H Hk
  iapply (st_sent m ρ K c (1, true, 0) rfl (slot_credit true 1 0).1 rfl) $$ H; iintro H
  iapply (st_sent m ρ K c (1, false, 1) rfl (slot_credit false 1 1).1 rfl) $$ H; iintro H
  iapply (st_sent m ρ K c (1, true, 1) rfl (slot_credit true 1 1).1 rfl) $$ H; iintro H
  iapply (wp_done c); iapply Hk; iexact H

theorem part32 {Q : PUnit → sProp 𝕄} :
    (St m ρ K c 24 24 8 24 8) ⊢ iprop((St m ρ K c 24 24 11 24 8 -∗ Q ⟨⟩) -∗ Wp c (withArgs k0_part32) Q) := by
  rw [k0_part32_eq_skeleton]; unfold withArgs k0_part32_skel
  simp only [Prog.lift, Prog.bind_op, Prog.bind_ret, Prog.pure_eq_ret]
  iintro H Hk
  iapply (st_sent m ρ K c (2, false, 0) rfl (slot_credit false 2 0).1 rfl) $$ H; iintro H
  iapply (st_sent m ρ K c (2, true, 0) rfl (slot_credit true 2 0).1 rfl) $$ H; iintro H
  iapply (st_sent m ρ K c (2, false, 1) rfl (slot_credit false 2 1).1 rfl) $$ H; iintro H
  iapply (wp_done c); iapply Hk; iexact H

theorem part33 {Q : PUnit → sProp 𝕄} :
    (St m ρ K c 24 24 11 24 8) ⊢ iprop((St m ρ K c 24 24 16 24 8 -∗ Q ⟨⟩) -∗ Wp c (withArgs k0_part33 c) Q) := by
  rw [k0_part33_eq_skeleton]; unfold withArgs k0_part33_skel
  simp only [Prog.lift, Prog.bind_op, Prog.bind_ret, Prog.pure_eq_ret]
  iintro H Hk
  iapply (st_sent m ρ K c (2, true, 1) rfl (slot_credit true 2 1).1 rfl) $$ H; iintro H
  iapply (st_sent m ρ K c (3, false, 0) rfl credit_out rfl) $$ H; iintro H
  iapply (st_sent m ρ K c (3, true, 0) rfl credit_out rfl) $$ H; iintro H
  iapply (st_sent m ρ K c (3, false, 1) rfl credit_out rfl) $$ H; iintro H
  iapply (st_sent m ρ K c (3, true, 1) rfl credit_out rfl) $$ H; iintro H
  iapply (wp_done c); iapply Hk; iexact H

theorem part34 {Q : PUnit → sProp 𝕄} :
    (St m ρ K c 24 24 16 24 8) ⊢ iprop((St m ρ K c 24 24 21 24 8 -∗ Q ⟨⟩) -∗ Wp c (withArgs k0_part34 c) Q) := by
  rw [k0_part34_eq_skeleton]; unfold withArgs k0_part34_skel
  simp only [Prog.lift, Prog.bind_op, Prog.bind_ret, Prog.pure_eq_ret]
  iintro H Hk
  iapply (st_sent m ρ K c (4, false, 0) rfl credit_out rfl) $$ H; iintro H
  iapply (st_sent m ρ K c (4, true, 0) rfl credit_out rfl) $$ H; iintro H
  iapply (st_sent m ρ K c (4, false, 1) rfl credit_out rfl) $$ H; iintro H
  iapply (st_sent m ρ K c (4, true, 1) rfl credit_out rfl) $$ H; iintro H
  iapply (st_sent m ρ K c (5, false, 0) rfl credit_out rfl) $$ H; iintro H
  iapply (wp_done c); iapply Hk; iexact H

end Cert.RingProof

end
-- ==== Proof.Mem.lean ====
/-
# The buffers cut for the protocol and put together again

The output staging buffer and the partial products are sixteen bands, the partial products also eight halves, each
send and receive buffer six slots.
-/
module

public import proofs.«01_k».proof.Proof.State
public import Idealize.ShloMosaic.Lib.Pipeline.TalkSched

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (c : Dev nD)

/-! ## Contents put together from parts -/

/-- Values given on disjoint rectangles come from one array. -/
theorem rects_glue {s : Shape} {T : Type} (r : T → Rect s) (hd : ∀ t t', t ≠ t' → Disjoint (r t).set (r t').set) {β : Type} [Nonempty β]
    (Y : (t : T) → (r t).shape.Idx → β) : ∃ X : s.Idx → β, ∀ t j, X ((r t).emb j) = Y t j := by
  classical
  refine ⟨fun i => if h : ∃ t j, (r t).emb j = i then Y h.choose h.choose_spec.choose else Classical.arbitrary β, fun t j => ?_⟩
  have h : ∃ t' j', (r t').emb j' = (r t).emb j := ⟨t, j, rfl⟩
  dsimp only
  rw [dif_pos h]
  have e := h.choose_spec.choose_spec
  have ht : h.choose = t := by
    by_contra hne
    have h1 : (r t).emb j ∈ (r h.choose).set := Set.mem_of_eq_of_mem e.symm (s := {i | i ∈ (r h.choose).set}) (LoadRect.idx_mem _ _)
    exact (Finset.disjoint_left.mp (hd _ _ hne)) h1 (LoadRect.idx_mem _ j)
  generalize h.choose_spec.choose = j' at e ⊢
  revert j' e
  rw [ht]
  intro j' e
  rw [(r t).emb.injective e]

/-- Some contents. -/
def anyOf {s : Shape} {e : EltTy} (M : Memref sig .tc .vmem s e) : sProp 𝕄 := iprop(∃ X, ownsTc c M fullShare X)
theorem anyOf_intro {s : Shape} {e : EltTy} {M : Memref sig .tc .vmem s e} (X : s.Idx → Elt F e) : (ownsTc c M fullShare X : sProp 𝕄) ⊢ anyOf c M := by
  unfold anyOf; iintro H; iexists X; iexact H

section Fam
variable {s : Shape} {e : EltTy} {T : Type} [Fintype T] [DecidableEq T] (M : Memref sig .tc .vmem s e) (r : T → Rect s) (hr : ∀ t a, (r t).stride a = 1)
  (hd : ∀ t t', t ≠ t' → Disjoint (r t).set (r t').set) (hcov : (Finset.univ : Finset T).biUnion (fun t => (r t).set) = Finset.univ)

include hd hcov in
theorem any_cut : (anyOf c M : sProp 𝕄) ⊢ bigSep Finset.univ fun t => anyOf c (M.slice (r t) (hr t)) := by
  have h : ∀ X, (ownsTc c M fullShare X : sProp 𝕄) ⊢ bigSep Finset.univ fun t => anyOf c (M.slice (r t) (hr t)) := fun X =>
    (owns_rects (c : Thread nD τ) M fullShare r hr hd hcov X).trans (bigSep_mono fun t _ => anyOf_intro c (fun j => X ((r t).emb j)))
  unfold anyOf at h ⊢
  iintro ⟨%X, H⟩; iapply (h X); iexact H

include hd hcov in
theorem any_join [∀ e, Nonempty (Elt F e)] : (bigSep Finset.univ fun t => anyOf c (M.slice (r t) (hr t)) : sProp 𝕄) ⊢ anyOf c M := by
  have h : (bigSep Finset.univ fun t => anyOf c (M.slice (r t) (hr t)) : sProp 𝕄)
      ⊢ iprop(∃ Y : (t : T) → (r t).shape.Idx → Elt F e, bigSep Finset.univ fun t => ownsTc c (M.slice (r t) (hr t)) fullShare (Y t)) :=
    BI.bigSep_exists_pi Finset.univ fun (t : T) (Y : (r t).shape.Idx → Elt F e) => (ownsTc c (M.slice (r t) (hr t)) fullShare Y : sProp 𝕄)
  refine h.trans ?_
  iintro ⟨%Y, H⟩
  obtain ⟨X, hX⟩ := rects_glue r hd Y
  iapply (anyOf_intro c X)
  have h' : (bigSep Finset.univ fun t => ownsTc c (M.slice (r t) (hr t)) fullShare (Y t) : sProp 𝕄) ⊢ ownsTc c M fullShare X := by
    rw [show Y = fun t j => X ((r t).emb j) from funext fun t => funext fun j => (hX t j).symm]
    exact owns_of_rects (c : Thread nD τ) M fullShare r hr hd hcov X
  iapply h'; iexact H

end Fam

/-! ## The families -/

/-- How many steps behind, direction, sub-block: a band as device `c` counts them. -/
abbrev Quad : Type := Fin 4 × Bool × Fin 2
def qb (c : Dev nD) (t : Quad) : Fin 16 := bd (ck t.2.1 c t.1.val) t.2.1 t.2.2
def quadsK (k : Fin 4) : List Quad := [(k, false, 0), (k, true, 0), (k, false, 1), (k, true, 1)]
def quads : List Quad := quadsK 3 ++ ((quadsK 0 ++ quadsK 1) ++ quadsK 2)

theorem qb_inj : ∀ (c : Dev nD) (t t' : Quad), qb c t = qb c t' → t = t' := by decide +kernel
theorem qb_surj : ∀ (c : Dev nD) (b : Fin 16), ∃ t, qb c t = b := by decide +kernel
theorem bd_inj : ∀ (x y : Dev nD × Bool × Fin 2), bd x.1 x.2.1 x.2.2 = bd y.1 y.2.1 y.2.2 → x = y := by decide +kernel
theorem hf_inj : ∀ (c : Dev nD) (x y : Fin 4 × Bool), hf (ck x.2 c x.1.val) x.2 = hf (ck y.2 c y.1.val) y.2 → x = y := by decide +kernel
theorem hf_surj : ∀ (c : Dev nD) (b : Fin 8), ∃ x : Fin 4 × Bool, hf (ck x.2 c x.1.val) x.2 = b := by decide +kernel

theorem band_mem (i : S1536x1536.Idx) : ∃ b : Fin 16, i ∈ (bandR b).set := by
  have h0 : (i 0).val < 1536 := (i 0).isLt
  have h1 : (i 1).val < 1536 := (i 1).isLt
  refine ⟨⟨(i 0).val / 96, by omega⟩, ?_⟩
  rw [Rect.mem_set_unit]
  simp only [Fin.forall_fin_two, Matrix.cons_val_zero, Matrix.cons_val_one]
  omega
theorem half_mem (i : S1536x1536.Idx) : ∃ b : Fin 8, i ∈ (halfR b).set := by
  have h0 : (i 0).val < 1536 := (i 0).isLt
  have h1 : (i 1).val < 1536 := (i 1).isLt
  refine ⟨⟨(i 0).val / 192, by omega⟩, ?_⟩
  rw [Rect.mem_set_unit]
  simp only [Fin.forall_fin_two, Matrix.cons_val_zero, Matrix.cons_val_one]
  omega
theorem slot_mem (i : S3x192x1536.Idx) : ∃ x : Fin 3 × Fin 2, i ∈ (slotR x.1 x.2).set := by
  have h0 : (i 0).val < 3 := (i 0).isLt
  have h1 : (i 1).val < 192 := (i 1).isLt
  have h2 : (i 2).val < 1536 := (i 2).isLt
  refine ⟨(⟨(i 0).val, h0⟩, ⟨(i 1).val / 96, by omega⟩), ?_⟩
  rw [Rect.mem_set_unit]
  simp only [Fin.forall_fin_succ]
  simp
  omega
theorem halves_disjoint (b b' : Fin 8) (hb : b ≠ b') : Disjoint (halfR b).set (halfR b').set := by
  have hne : b.val ≠ b'.val := fun h => hb (Fin.ext h)
  rw [Finset.disjoint_left]
  intro i h h'
  have h := Rect.mem_set_unit.mp h 0
  have h' := Rect.mem_set_unit.mp h' 0
  simp only [Matrix.cons_val_zero] at h h'
  omega
theorem slots_disjoint (x y : Fin 3 × Fin 2) (hb : x ≠ y) : Disjoint (slotR x.1 x.2).set (slotR y.1 y.2).set := by
  have hne : ¬ (x.1.val = y.1.val ∧ x.2.val = y.2.val) := fun h => hb (Prod.ext (Fin.ext h.1) (Fin.ext h.2))
  rw [Finset.disjoint_left]
  intro i h h'
  have h0 := Rect.mem_set_unit.mp h 0
  have h0' := Rect.mem_set_unit.mp h' 0
  have h1 := Rect.mem_set_unit.mp h 1
  have h1' := Rect.mem_set_unit.mp h' 1
  simp at h0 h0' h1 h1'
  omega

theorem quad_disjoint (t t' : Quad) (h : t ≠ t') : Disjoint (bandR (qb c t)).set (bandR (qb c t')).set :=
  bands_disjoint _ _ fun e => h (qb_inj c t t' e)
theorem quad_cover : (Finset.univ : Finset Quad).biUnion (fun t => (bandR (qb c t)).set) = Finset.univ := by
  refine Finset.eq_univ_of_forall fun i => ?_
  obtain ⟨b, hb⟩ := band_mem i; obtain ⟨t, rfl⟩ := qb_surj c b
  exact Finset.mem_biUnion.mpr ⟨t, Finset.mem_univ _, hb⟩
theorem halves_cover : (Finset.univ : Finset (Fin 4 × Bool)).biUnion (fun x => (halfR (hf (ck x.2 c x.1.val) x.2)).set) = Finset.univ := by
  refine Finset.eq_univ_of_forall fun i => ?_
  obtain ⟨b, hb⟩ := half_mem i; obtain ⟨t, rfl⟩ := hf_surj c b
  exact Finset.mem_biUnion.mpr ⟨t, Finset.mem_univ _, hb⟩
theorem slots_cover : (Finset.univ : Finset (Fin 3 × Fin 2)).biUnion (fun x => (slotR x.1 x.2).set) = Finset.univ := by
  refine Finset.eq_univ_of_forall fun i => ?_
  obtain ⟨x, hx⟩ := slot_mem i
  exact Finset.mem_biUnion.mpr ⟨x, Finset.mem_univ _, hx⟩

theorem quads_all (Φ : Quad → sProp 𝕄) : bigSep Finset.univ Φ = bigSepL quads Φ := bigSep_univ_eq_bigSepL quads (by decide) (by decide) Φ

abbrev qBand (M : Memref sig .tc .vmem S1536x1536 .bf16) (t : Quad) : sProp 𝕄 := anyOf c (bandM M (qb c t))

theorem bands_cut (M : Memref sig .tc .vmem S1536x1536 .bf16) : (anyOf c M : sProp 𝕄) ⊢ bigSepL quads (qBand (F := F) c M) := by
  rw [← quads_all]; exact any_cut c M (fun t : Quad => bandR (qb c t)) (fun _ _ => rfl) (quad_disjoint c) (quad_cover c)
theorem bands_join [∀ e, Nonempty (Elt F e)] (M : Memref sig .tc .vmem S1536x1536 .bf16) : (bigSepL quads (qBand (F := F) c M)) ⊢ (anyOf c M : sProp 𝕄) := by
  rw [← quads_all]; exact any_join c M (fun t : Quad => bandR (qb c t)) (fun _ _ => rfl) (quad_disjoint c) (quad_cover c)

theorem halves_cut : (anyOf c pM : sProp 𝕄) ⊢ bigSepL horder (halfFree (F := F) c) := by
  have h := any_cut (F := F) c pM (fun x : Fin 4 × Bool => halfR (hf (ck x.2 c x.1.val) x.2)) (fun _ _ => rfl)
    (fun x y hxy => halves_disjoint _ _ fun e => hxy (hf_inj c x y e)) (halves_cover c)
  rw [bigSep_univ_eq_bigSepL [(0, false), (0, true), (1, false), (1, true), (2, false), (2, true), (3, false), (3, true)] (by decide) (by decide)] at h
  exact h

abbrev sl (M : Memref sig .tc .vmem S3x192x1536 .bf16) (x : Fin 3 × Fin 2) : sProp 𝕄 := anyOf c (slotM M x.1 x.2)
def slots : List (Fin 3 × Fin 2) := [(0, 0), (0, 1), (1, 0), (1, 1), (2, 0), (2, 1)]

theorem sl_eq (M : Memref sig .tc .vmem S3x192x1536 .bf16) (x : Fin 3 × Fin 2) :
    sl (F := F) c M x = anyOf c (M.slice (slotR x.1 x.2) (fun _ => rfl)) := by
  unfold sl anyOf
  simp only [slot_eq]
  refine equiv_iff.mp ⟨?_, ?_⟩
  · show iprop(∃ X, ownsTc c (M.slice (slotR x.1 x.2) (fun _ => rfl)) fullShare (unsq X)) ⊢ iprop(∃ X, ownsTc c (M.slice (slotR x.1 x.2) (fun _ => rfl)) fullShare X)
    iintro ⟨%X, H⟩; iexists (unsq X); iexact H
  · show iprop(∃ X, ownsTc c (M.slice (slotR x.1 x.2) (fun _ => rfl)) fullShare X) ⊢ iprop(∃ X, ownsTc c (M.slice (slotR x.1 x.2) (fun _ => rfl)) fullShare (unsq X))
    iintro ⟨%X, H⟩; iexists (sq X); rw [unsq_sq]; iexact H

theorem slots_cut (M : Memref sig .tc .vmem S3x192x1536 .bf16) : (anyOf c M : sProp 𝕄) ⊢ bigSepL slots (sl (F := F) c M) := by
  rw [← bigSep_univ_eq_bigSepL slots (by decide) (by decide), show sl (F := F) c M = _ from funext (sl_eq c M)]
  exact any_cut c M (fun x : Fin 3 × Fin 2 => slotR x.1 x.2) (fun _ _ => rfl) slots_disjoint slots_cover
theorem slots_join [∀ e, Nonempty (Elt F e)] (M : Memref sig .tc .vmem S3x192x1536 .bf16) : bigSepL slots (sl (F := F) c M) ⊢ (anyOf c M : sProp 𝕄) := by
  rw [← bigSep_univ_eq_bigSepL slots (by decide) (by decide), show sl (F := F) c M = _ from funext (sl_eq c M)]
  exact any_join c M (fun x : Fin 3 × Fin 2 => slotR x.1 x.2) (fun _ _ => rfl) slots_disjoint slots_cover

end Cert.RingProof

end
-- ==== Proof.Ends.lean ====
/-
# The memory at the two ends of the body
-/
module

public import proofs.«01_k».proof.Proof.Mem

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (c : Dev nD)

/-! ## Before -/

/-- The transfers of direction `d` that start from a slot of the send buffer. -/
def slotX (d : Bool) : List Xfer := [(1, d, 0), (1, d, 1), (2, d, 0), (2, d, 1)]
def ownX : List Xfer := [(3, false, 0), (3, true, 0), (3, false, 1), (3, true, 1)]
/-- The slots no transfer uses. -/
def spare (d : Bool) : sProp 𝕄 := bigSepL [(0, 0), (0, 1)] (sl (F := F) c (sbM d))

theorem send_cut (d : Bool) : (anyOf c (sbM d) : sProp 𝕄) ⊢ iprop(spare c d ∗ bigSepL (slotX d) (freeSrc (F := F) c)) := by
  refine (slots_cut c (sbM d)).trans (Entails.of_eq ?_)
  rw [show slots = [(0, 0), (0, 1)] ++ [(1, 0), (1, 1), (2, 0), (2, 1)] from rfl, bigSepL_append]
  rfl

theorem free_cut : iprop(bigSepL (slotX false) (freeSrc (F := F) c) ∗ bigSepL (slotX true) (freeSrc (F := F) c) ∗ bigSepL ownX (freeSrc (F := F) c))
    ⊢ bigSepL forder (freeSrc (F := F) c) := by
  rw [TalkSites.bigSepL_perm (show forder.Perm (slotX false ++ (slotX true ++ ownX)) by decide) (by decide), bigSepL_append, bigSepL_append]

/-- The bands of direction `d` a neighbour writes. -/
def landQ (d : Bool) : List Quad := [(0, d, 0), (0, d, 1), (1, d, 0), (1, d, 1), (2, d, 0), (2, d, 1)]

theorem out_cut : (anyOf c oM : sProp 𝕄) ⊢ iprop(bigSepL (landQ false) (qBand (F := F) c oM) ∗ bigSepL (landQ true) (qBand (F := F) c oM) ∗ bigSepL ownX (freeSrc (F := F) c)) := by
  refine (bands_cut c oM).trans ?_
  rw [TalkSites.bigSepL_perm (show quads.Perm (landQ false ++ (landQ true ++ quadsK 3)) by decide) (by decide), bigSepL_append, bigSepL_append]
  exact .rfl

/-- Everything direction `d`'s neighbour writes on `c`. -/
theorem land_cut (d : Bool) : iprop((anyOf c (rbM d) : sProp 𝕄) ∗ bigSepL (landQ d) (qBand (F := F) c oM)) ⊢ barPay d (back d c) := by
  have hs : ∀ x : Fin 3 × Fin 2, (sl (F := F) c (rbM d) x) ⊢ land (F := F) (⟨x.1.val, by omega⟩, d, x.2) (back d c) := fun x => by
    unfold land; dsimp only; rw [fwd_back]
    have h : dstM (⟨x.1.val, by omega⟩, d, x.2) (back d c) = slotM (rbM d) x.1 x.2 := by
      unfold dstM; rw [if_pos x.1.isLt]; exact congrArg (fun s => slotM (rbM d) s x.2) (Fin.ext (Nat.mod_eq_of_lt x.1.isLt))
    rw [h]; exact .rfl
  have hb : ∀ x : Fin 3 × Fin 2, (qBand (F := F) c oM (⟨x.1.val, by omega⟩, d, x.2)) ⊢ land (F := F) (⟨3 + x.1.val, by omega⟩, d, x.2) (back d c) := fun x => by
    unfold land; dsimp only; rw [fwd_back]
    have h : dstM (⟨3 + x.1.val, by omega⟩, d, x.2) (back d c) = bandM oM (qb c (⟨x.1.val, by omega⟩, d, x.2)) := by
      unfold dstM; rw [if_neg (show ¬ 3 + x.1.val < 3 by omega)]
      dsimp only
      rw [ck_back, show 3 + x.1.val + 1 = 4 + x.1.val by omega, ck_four]
      rfl
    rw [h]; exact .rfl
  unfold barPay
  rw [bigSep_univ_eq_bigSepL (slots.map (fun x => ((⟨x.1.val, by omega⟩ : Fin 6), x.2)) ++ slots.map (fun x => ((⟨3 + x.1.val, by omega⟩ : Fin 6), x.2)))
    (by decide) (by decide), bigSepL_append, bigSepL_map, bigSepL_map]
  refine BIClass.sep_mono ((slots_cut c (rbM d)).trans (bigSepL_mono fun x _ => hs x)) ?_
  rw [show landQ d = slots.map (fun x => ((⟨x.1.val, by omega⟩ : Fin 4), d, x.2)) from rfl, bigSepL_map]
  exact bigSepL_mono fun x _ => hb x

/-! ## After -/

variable [∀ e, Nonempty (Elt F e)]

/-- The whole result: every band as the device that reduced its chunk last left it. -/
theorem outFull_ex : ∃ X : Vec F S1536x1536 .bf16, ∀ (x : Dev nD × Bool × Fin 2) (i : S96x1536.Idx), X ((bandR (bd x.1 x.2.1 x.2.2)).emb i) = outV m ρ x.1 x.2.1 x.2.2 i :=
  rects_glue (fun x : Dev nD × Bool × Fin 2 => bandR (bd x.1 x.2.1 x.2.2)) (fun x y h => bands_disjoint _ _ fun e => h (bd_inj x y e))
    (fun x => outV m ρ x.1 x.2.1 x.2.2)
def outFull : Vec F S1536x1536 .bf16 := (outFull_ex m ρ).choose
theorem outFull_band (q : Dev nD) (d : Bool) (j : Fin 2) (i : S96x1536.Idx) : outFull m ρ ((bandR (bd q d j)).emb i) = outV m ρ q d j i :=
  (outFull_ex m ρ).choose_spec (q, d, j) i

/-- A finished band. -/
def outB (t : Quad) : sProp 𝕄 := ownsTc c (bandM oM (qb c t)) fullShare (outV m ρ (ck t.2.1 c t.1.val) t.2.1 t.2.2)

theorem out_join : bigSepL quads (outB m ρ c) ⊢ (ownsTc c oM fullShare (outFull m ρ) : sProp 𝕄) := by
  rw [← quads_all]
  have h : outB m ρ c = fun t => (ownsTc c (bandM oM (qb c t)) fullShare (fun i => outFull m ρ ((bandR (qb c t)).emb i)) : sProp 𝕄) := funext fun t => by
    unfold outB
    exact congrArg (fun Y : Vec F S96x1536 .bf16 => (ownsTc c (bandM oM (qb c t)) fullShare Y : sProp 𝕄)) (funext fun i => (outFull_band m ρ _ _ _ i).symm)
  rw [h]
  exact owns_of_rects (c : Thread nD τ) oM fullShare (fun t : Quad => bandR (qb c t)) (fun _ _ => rfl) (quad_disjoint c) (quad_cover c) (outFull m ρ)

theorem send_out (k : Fin 3) (d : Bool) (j : Fin 2) : sendPay m ρ (⟨3 + k.val, by omega⟩, d, j) c = outB m ρ c (⟨(3 + k.val) % 4, Nat.mod_lt _ (by decide)⟩, d, j) := by
  have h : ck d c (3 + k.val) = ck d c ((3 + k.val) % 4) := by
    match k with
    | 0 => rfl
    | 1 => show ck d c 4 = ck d c 0; exact ck_four d c 0
    | 2 => show ck d c 5 = ck d c 1; exact ck_four d c 1
  have h3 : ¬ 3 + k.val < 3 := by omega
  have h0 : ¬ 3 + k.val = 0 := by omega
  unfold sendPay srcM val outB qb
  dsimp only
  rw [if_neg h0, if_neg h3, if_neg h3, h]
theorem recv_out (d : Bool) (j : Fin 2) : recvPay m ρ (5, d, j) c = outB m ρ c (2, d, j) := by
  have h : ck d (back d c) 5 = ck d c 2 := (ck_back d c 5).trans (ck_four d c 2)
  show ownsTc c (bandM oM (bd (ck d (back d c) 5) d j)) fullShare (outV m ρ (ck d (back d c) 5) d j) = _
  rw [h]; rfl

/-- The finished bands: three kinds sent on, one kind received last. -/
theorem outs_join : iprop(bigSepL (order.drop 12) (sendPay m ρ · c) ∗ bigSepL [(5, false, 0), (5, true, 0), (5, false, 1), (5, true, 1)] (recvPay m ρ · c))
    ⊢ (ownsTc c oM fullShare (outFull m ρ) : sProp 𝕄) := by
  have h1 : bigSepL (order.drop 12) (sendPay m ρ · c) = bigSepL (quadsK 3 ++ (quadsK 0 ++ quadsK 1)) (outB m ρ c) := by
    rw [show order.drop 12 = [((0 : Fin 3), false, (0 : Fin 2)), (0, true, 0), (0, false, 1), (0, true, 1), (1, false, 0), (1, true, 0), (1, false, 1), (1, true, 1),
        (2, false, 0), (2, true, 0), (2, false, 1), (2, true, 1)].map (fun x => ((⟨3 + x.1.val, by omega⟩ : Fin 6), x.2.1, x.2.2)) from rfl, bigSepL_map]
    simp only [send_out]
    rw [← bigSepL_map (fun x : Fin 3 × Bool × Fin 2 => ((⟨(3 + x.1.val) % 4, Nat.mod_lt _ (by decide)⟩ : Fin 4), x.2.1, x.2.2))]
    rfl
  have h2 : bigSepL [(5, false, 0), (5, true, 0), (5, false, 1), (5, true, 1)] (recvPay m ρ · c) = bigSepL (quadsK 2) (outB m ρ c) := by
    rw [show [((5 : Fin 6), false, (0 : Fin 2)), (5, true, 0), (5, false, 1), (5, true, 1)] = [(false, (0 : Fin 2)), (true, 0), (false, 1), (true, 1)].map (fun x => ((5 : Fin 6), x.1, x.2)) from rfl, bigSepL_map]
    simp only [recv_out]
    rw [← bigSepL_map (fun x : Bool × Fin 2 => ((2 : Fin 4), x.1, x.2))]
    rfl
  rw [h1, h2, ← bigSepL_append]
  refine BIBase.Entails.trans (Entails.of_eq ?_) (out_join m ρ c)
  exact TalkSites.bigSepL_perm (by decide) (by decide) _

theorem part_join : iprop(bigSepL (order.take 4) (sendPay m ρ · c) ∗ bigSepL porder (partBand m ρ c)) ⊢ (anyOf c pM : sProp 𝕄) := by
  refine BIBase.Entails.trans ?_ (bands_join c pM)
  rw [TalkSites.bigSepL_perm (show quads.Perm ([(0, false, 0), (0, false, 1), (0, true, 0), (0, true, 1)] ++ [(1, false, 0), (1, false, 1), (1, true, 0), (1, true, 1), (2, false, 0), (2, false, 1), (2, true, 0), (2, true, 1),
   (3, false, 0), (3, false, 1), (3, true, 0), (3, true, 1)]) by decide) (by decide), bigSepL_append]
  refine BIClass.sep_mono ?_ ?_
  · rw [show order.take 4 = [((0 : Fin 4), false, (0 : Fin 2)), (0, false, 1), (0, true, 0), (0, true, 1)].map (fun t => ((0 : Fin 6), t.2)) from rfl, bigSepL_map]
    refine bigSepL_mono fun t ht => ?_
    have ht0 : t.1 = 0 := by revert t; decide
    obtain ⟨k, d, j⟩ := t
    dsimp only at ht0; subst ht0
    exact anyOf_intro c (val m ρ (0, d, j) c)
  · rw [show porder = [((1 : Fin 4), false, (0 : Fin 2)), (1, false, 1), (1, true, 0), (1, true, 1), (2, false, 0), (2, false, 1), (2, true, 0), (2, true, 1),
     (3, false, 0), (3, false, 1), (3, true, 0), (3, true, 1)].map (fun t => (t.1.val, t.2)) from rfl, bigSepL_map]
    exact bigSepL_mono fun t _ => anyOf_intro c (partV m ρ c (ck t.2.1 c t.1.val) t.2.1 t.2.2)

theorem send_join (d : Bool) : iprop(spare c d ∗ bigSepL (slotX d) (sendPay m ρ · c)) ⊢ (anyOf c (sbM d) : sProp 𝕄) := by
  refine BIBase.Entails.trans ?_ (slots_join c (sbM d))
  rw [show slots = [(0, 0), (0, 1)] ++ [(1, 0), (1, 1), (2, 0), (2, 1)] from rfl, bigSepL_append]
  refine BIClass.sep_mono .rfl ?_
  rw [show slotX d = [((1 : Fin 3), (0 : Fin 2)), (1, 1), (2, 0), (2, 1)].map (fun x => ((⟨x.1.val, by omega⟩ : Fin 6), d, x.2)) from rfl, bigSepL_map]
  refine bigSepL_mono fun x hx => ?_
  have h0 : ¬ x.1.val = 0 := by revert x; decide
  have h : srcM (⟨x.1.val, by omega⟩, d, x.2) c = slotM (sbM d) x.1 x.2 := by
    unfold srcM; rw [if_neg h0, if_pos x.1.isLt]; exact congrArg (fun s => slotM (sbM d) s x.2) (Fin.ext (Nat.mod_eq_of_lt x.1.isLt))
  unfold sendPay; rw [h]; exact anyOf_intro c _

theorem recv_join (d : Bool) : bigSepL (slots.map fun x => ((⟨x.1.val, by omega⟩ : Fin 6), d, x.2)) (recvPay m ρ · c) ⊢ (anyOf c (rbM d) : sProp 𝕄) := by
  refine BIBase.Entails.trans ?_ (slots_join c (rbM d))
  rw [bigSepL_map]
  refine bigSepL_mono fun x _ => ?_
  have h : dstM (⟨x.1.val, by omega⟩, d, x.2) (back d c) = slotM (rbM d) x.1 x.2 := by
    unfold dstM; rw [if_pos x.1.isLt]; exact congrArg (fun s => slotM (rbM d) s x.2) (Fin.ext (Nat.mod_eq_of_lt x.1.isLt))
  unfold recvPay; dsimp only; rw [h]; exact anyOf_intro c _

/-- Every buffer whole again. -/
theorem mem_after :
    iprop(bigSepL order (sendPay m ρ · c) ∗ bigSepL porder (partBand m ρ c) ∗ bigSepL (rorder.filter kept) (recvPay m ρ · c) ∗ spare c false ∗ spare c true)
      ⊢ (iprop(ownsTc c oM fullShare (outFull m ρ) ∗ anyOf c pM ∗ anyOf c (sbM false) ∗ anyOf c (rbM false) ∗ anyOf c (sbM true) ∗ anyOf c (rbM true)) : sProp 𝕄) := by
  rw [TalkSites.bigSepL_perm (show order.Perm (order.take 4 ++ (slotX false ++ (slotX true ++ order.drop 12))) by decide) (by decide), bigSepL_append, bigSepL_append, bigSepL_append,
    TalkSites.bigSepL_perm (show (rorder.filter kept).Perm ((slots.map fun x => ((⟨x.1.val, by omega⟩ : Fin 6), false, x.2)) ++ ((slots.map fun x => ((⟨x.1.val, by omega⟩ : Fin 6), true, x.2))
      ++ [(5, false, 0), (5, true, 0), (5, false, 1), (5, true, 1)])) by decide) (by decide), bigSepL_append, bigSepL_append]
  iintro ⟨⟨H0, HSf, HSt, HO⟩, HP, ⟨HRf, HRt, HR5⟩, Hspf, Hspt⟩
  isplitl [HO HR5]
  · iapply (outs_join m ρ c); isplitl [HO] <;> iassumption
  isplitl [H0 HP]
  · iapply (part_join m ρ c); isplitl [H0] <;> iassumption
  isplitl [HSf Hspf]
  · iapply (send_join m ρ c false); isplitl [Hspf] <;> iassumption
  isplitl [HRf]; · iapply (recv_join m ρ c false); iexact HRf
  isplitl [HSt Hspt]
  · iapply (send_join m ρ c true); isplitl [Hspt] <;> iassumption
  iapply (recv_join m ρ c true); iexact HRt

end Cert.RingProof

end
-- ==== Proof.First.lean ====
/-
# The first window: the handshake with both neighbours, and the first product
-/
module

public import proofs.«01_k».proof.Proof.Parts
public import proofs.«01_k».proof.Proof.Ends

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

/-- What the device holds of the protocol when the body starts. -/
def Ghost : sProp 𝕄 :=
  iprop(records m ρ K ∗ dutyTok ER (barCell (prv c)) 0 false ∗ dutyTok ER (barCell (nxt c)) 0 true
    ∗ cred (tallyAt (barCell c) () 2) ∗ atPos ER (barCell c) 0 ∅ 0
    ∗ bigSepL order (sendToks (F := F) c) ∗ bigSepL order (sendPos (F := F) c) ∗ bigSepL rorder (recvRes (F := F) c))
/-- And of memory. -/
def Room : sProp 𝕄 :=
  iprop(barPay (F := F) false (prv c) ∗ barPay (F := F) true (nxt c) ∗ bigSepL forder (freeSrc (F := F) c) ∗ bigSepL horder (halfFree (F := F) c)
    ∗ ownsTc c aM fullShare (aStg m ρ c) ∗ ownsTc c bM fullShare (bStg m ρ c) ∗ anyOf c bcM)

theorem land_all : iprop((barPay false c : sProp 𝕄) ∗ barPay true c) ⊢ bigSepL order (fun t => land (F := F) t c) := by
  unfold barPay
  rw [bigSep_univ_eq_bigSepL [((0 : Fin 6), (0 : Fin 2)), (0, 1), (1, 0), (1, 1), (2, 0), (2, 1), (3, 0), (3, 1), (4, 0), (4, 1), (5, 0), (5, 1)] (by decide) (by decide),
    bigSep_univ_eq_bigSepL [((0 : Fin 6), (0 : Fin 2)), (0, 1), (1, 0), (1, 1), (2, 0), (2, 1), (3, 0), (3, 1), (4, 0), (4, 1), (5, 0), (5, 1)] (by decide) (by decide),
    ← bigSepL_map (fun x : Fin 6 × Fin 2 => (x.1, false, x.2)) _ (fun t => land (F := F) t c),
    ← bigSepL_map (fun x : Fin 6 × Fin 2 => (x.1, true, x.2)) _ (fun t => land (F := F) t c), ← bigSepL_append]
  exact Entails.of_eq (TalkSites.bigSepL_perm (by decide) (by decide) _)

theorem nil_intro {I : Type} (Φ : I → sProp 𝕄) : iprop(emp) ⊢ bigSepL [] Φ := .rfl

theorem part1 {Q : (Σ' (_ : Dev nD) (_ : BitVec 32) (_ : BitVec 32), BitVec 32) → sProp 𝕄} :
    iprop(Ghost m ρ K c ∗ Room m ρ c ∗ ∃ W, owes (c : Thread nD τ) (O₀ c) W)
      ⊢ iprop((∀ x y z, (St m ρ K c 0 0 0 2 1 ∗ semVal (barCell c) 0) -∗ Q ⟨c, x, y, z⟩) -∗ Wp c (withArgs k0_part1) Q) := by
  rw [k0_part1_eq_skeleton]; unfold withArgs k0_part1_skel
  have e1 : (⟨k0_dev1 c, k0_dev1_lt c⟩ : Dev nD) = prv c := Fin.ext (k0_dev1_eq c)
  have e2 : (⟨k0_dev2 c, k0_dev2_lt c⟩ : Dev nD) = nxt c := Fin.ext (k0_dev2_eq c)
  unfold Wp
  simp only [semSignalWord, semWaitWord, Prog.lift, Prog.bind_op, Prog.bind_ret, Prog.pure_eq_ret, wp_deviceId, e1, e2]
  unfold Ghost Room
  iintro ⟨⟨#HR, HtP, HtN, HcB, HatB, Htoks, Hpos, Hrecv⟩, ⟨HpP, HpN, Hfree, Hhalf, HA, HB, HC⟩, ⟨%W, HO⟩⟩ Hk
  -- a unit to the previous device, with what it may write here
  iapply (Rounds.wp_signal 𝒱₀ ER (ringRd m ρ) (c : Thread nD τ) none (dst := (prv c : Thread nD τ)) (κ := K (prv c, none))
      (d := false) (by rw [duties_bar]; exact Finset.mem_univ _) ((amount_bar m ρ (prv c) false).trans (by decide)) () (O₁ c) rfl) $$ [HO HtP HpP]
  · isplitr; · iapply (inv_at m ρ K (prv c, none)); iexact HR
    isplitl [HO]; · iexact HO
    isplitl [HtP]; · iexact HtP
    isplitl [HpP]; · rw [payload_bar]; iexact HpP
    iapply (reached_at m ρ K (prv c, none)); iexact HR
  iintro HO
  -- the same to the next one
  iapply (Rounds.wp_signal 𝒱₀ ER (ringRd m ρ) (c : Thread nD τ) none (dst := (nxt c : Thread nD τ)) (κ := K (nxt c, none))
      (d := true) (by rw [duties_bar]; exact Finset.mem_univ _) ((amount_bar m ρ (nxt c) true).trans (by decide)) () (Ow c order) rfl) $$ [HO HtN HpN]
  · isplitr; · iapply (inv_at m ρ K (nxt c, none)); iexact HR
    isplitl [HO]; · iexact HO
    isplitl [HtN]; · iexact HtN
    isplitl [HpN]; · rw [payload_bar]; iexact HpN
    iapply (reached_at m ρ K (nxt c, none)); iexact HR
  iintro HO
  -- both neighbours' units, and with them the right to write there
  iapply (Rounds.wp_wait_rest_token 𝒱₀ ER (ringRd m ρ) (c : Thread nD τ) none (κ := K (c, none))
      (wpE_semWait_eq 𝒱₀ (c : Thread nD τ) none Set.univ) (Set.mem_univ _) () (O := Ow c order) (W := W) (R := 0) (m := 0) (T := ∅)
      (by rw [expect_bar]; decide)) $$ [HcB HO HatB]
  · isplitr; · iapply (inv_at m ρ K (c, none)); iexact HR
    isplitl [HcB]; · iexact HcB
    isplitl [HO]; · iexact HO
    isplitr
    · iapply (mayWait_ow c (.reg barS) order (fun t _ => by rw [lvS_bar]; omega)); iapply (lev_at m ρ K); iexact HR
    iexact HatB
  iintro ⟨HO, HatB, -, Hpay⟩
  ihave Hp := (Entails.of_eq (rest_bar m ρ c)) $$ Hpay
  ihave Hland := (land_all (F := F) c) $$ Hp
  imod (Rounds.cell_close ER (ringRd m ρ) (Set.mem_univ (K (c, none))) (fun h => h) (R := 0 + 1) (duties_later m ρ (barCell c))) $$ [HatB] with HzB
  · isplitr; · iapply (inv_at m ρ K (c, none)); iexact HR
    iexact HatB
  -- the copy of the right operand
  unfold anyOf
  icases HC with ⟨%X, HC⟩
  iapply (load_full c bM) $$ HB; iintro HB
  iapply (load_full c bcM) $$ HC; iintro HC
  iapply (store_full c bcM) $$ HC; iintro HC
  ihave H : (St m ρ K c 0 0 0 0 0) $$ [HO Htoks Hpos Hrecv Hland Hfree Hhalf HA HB HC]
  · unfold St Eng opnds
    isplitl [HO Htoks Hpos Hrecv Hland]
    · isplitr; · iexact HR
      isplitl [HO]; · iexists _; iexact HO
      isplitl [Htoks]; · iexact Htoks
      isplitl [Hland]; · iexact Hland
      isplitl [Hpos]; · iexact Hpos
      isplitr; · iapply (nil_intro (F := F)); iempintro
      isplitl [Hrecv]; · iexact Hrecv
      isplitr; · iapply (nil_intro (F := F)); iempintro
      iapply (nil_intro (F := F)); iempintro
    isplitl [HA HB HC]
    · isplitl [HA]; · iexact HA
      isplitl [HB]; · iexact HB
      iexact HC
    isplitr; · iapply (nil_intro (F := F)); iempintro
    isplitl [Hfree]; · iexact Hfree
    isplitl [Hhalf]; · iexact Hhalf
    isplitr; · iapply (nil_intro (F := F)); iempintro
    isplitr; · iapply (nil_intro (F := F)); iempintro
    iapply (nil_intro (F := F)); iempintro
  iapply (st_loadA m ρ K c (hf c false) (off1_hf c 0)) $$ H; iintro H
  iapply (st_loadB m ρ K c) $$ H; iintro H
  iapply (st_loadHalf m ρ K c (0, false) rfl (off2_hf c 0)) $$ H; iintro %X' H
  iapply (st_storeHalf0 m ρ K c 0 false (by decide) rfl (by decide) rfl (off2_hf c 0) rfl) $$ H; iintro H
  iapply (wp_done c); iapply Hk
  isplitl [H] <;> iassumption

end Cert.RingProof

end
-- ==== Proof.Body.lean ====
/-
# The body: the windows in a row
-/
module

public import proofs.«01_k».proof.Proof.First

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg) (K : Dev nD × CI → ℕ) (c : Dev nD)

theorem sq_pay : sq (k0_pay7 (got m ρ c (0, false, 0)) (own m ρ c 1 false 0)) = val m ρ (1, false, 0) c := rfl

set_option maxRecDepth 8000 in
theorem body_run {Q : PUnit → sProp 𝕄} :
    iprop(Ghost m ρ K c ∗ Room m ρ c ∗ ∃ W, owes (c : Thread nD τ) (O₀ c) W)
      ⊢ iprop(((St m ρ K c 24 24 24 24 8 ∗ semVal (barCell c) 0) -∗ Q ⟨⟩) -∗ Wp c (withArgs cc0_body) Q) := by
  rw [cc0_body_eq_skeleton]; unfold withArgs cc0_body_skel
  rw [k0_part35_eq_skeleton]; unfold k0_part35_skel
  unfold Wp
  iintro H Hk
  rw [wp_bind, wp_bind]; iapply (part1 m ρ K c) $$ H; iintro %x1 %y1 %z1 ⟨H, Hbar⟩; dsimp only
  rw [wp_bind]; iapply (part2 m ρ K c _ _) $$ H; iintro %a2 H
  rw [wp_bind]; iapply (part3 m ρ K c _ _ _ _ rfl) $$ H; iintro H
  rw [wp_bind]; iapply (part4 m ρ K c _) $$ H; iintro %a4 %b4 H; dsimp only
  rw [wp_bind]; iapply (part5 m ρ K c _ _ _) $$ H; iintro %x5 %y5 %z5 H; dsimp only
  rw [wp_bind]; iapply (part6 m ρ K c _ _ _ _ (sq_pay m ρ c)) $$ H; iintro %x6 H
  rw [wp_bind]; iapply (part7 m ρ K c _ _ _ _ rfl) $$ H; iintro H
  rw [wp_bind]; iapply (part8 m ρ K c _ _) $$ H; iintro H
  rw [wp_bind]; iapply (part9 m ρ K c _ _) $$ H; iintro H
  rw [wp_bind]; iapply (part10 m ρ K c _ _ _) $$ H; iintro H
  rw [wp_bind]; iapply (part11 m ρ K c _ _ _) $$ H; iintro %x11 %y11 H; dsimp only
  rw [wp_bind]; iapply (part12 m ρ K c _ _ _ _) $$ H; iintro H
  rw [wp_bind]; iapply (part13 m ρ K c _ _ _) $$ H; iintro %x13 %y13 H; dsimp only
  rw [wp_bind]; iapply (part14 m ρ K c _ _ _ _ _ rfl) $$ H; iintro H
  rw [wp_bind]; iapply (part15 m ρ K c _ _ _) $$ H; iintro %x15 H
  rw [wp_bind]; iapply (part16 m ρ K c _ _ _) $$ H; iintro %x16 H
  rw [wp_bind]; iapply (part17 m ρ K c _ _ _ _ rfl) $$ H; iintro H
  rw [wp_bind]; iapply (part18 m ρ K c _ _) $$ H; iintro %x18 H
  rw [wp_bind]; iapply (part19 m ρ K c _ _ _ _ _ rfl) $$ H; iintro H
  rw [wp_bind]; iapply (part20 m ρ K c _) $$ H; iintro %x20 H
  rw [wp_bind]; iapply (part21 m ρ K c _ _ _ _) $$ H; iintro H
  rw [wp_bind]; iapply (part22 m ρ K c _ _ _ rfl) $$ H; iintro H
  rw [wp_bind]; iapply (part23 m ρ K c _ _ _) $$ H; iintro %x23 H
  rw [wp_bind]; iapply (part24 m ρ K c _ _ _ _) $$ H; iintro H
  rw [wp_bind]; iapply (part25 m ρ K c _ _ _) $$ H; iintro H
  rw [wp_bind]; iapply (part26 m ρ K c _ _ _) $$ H; iintro H
  rw [wp_bind]; iapply (part27 m ρ K c _ _ _) $$ H; iintro H
  rw [wp_bind]; iapply (part28 m ρ K c _ _ _) $$ H; iintro %x28 %y28 H; dsimp only
  rw [wp_bind]; iapply (part29 m ρ K c _ _ _ _) $$ H; iintro H
  rw [wp_bind]; iapply (part30 m ρ K c ) $$ H; iintro H
  rw [wp_bind]; iapply (part31 m ρ K c ) $$ H; iintro H
  rw [wp_bind]; iapply (part32 m ρ K c ) $$ H; iintro H
  rw [wp_bind]; iapply (part33 m ρ K c ) $$ H; iintro H
  rw [wp_bind]; iapply (part34 m ρ K c ) $$ H; iintro H
  simp only [Prog.lift, Prog.bind_op, Prog.bind_ret, Prog.pure_eq_ret]
  iapply (st_sent m ρ K c (5, true, 0) rfl credit_out rfl) $$ H; iintro H
  iapply (st_sent m ρ K c (5, false, 1) rfl credit_out rfl) $$ H; iintro H
  iapply (st_sent m ρ K c (5, true, 1) rfl credit_out rfl) $$ H; iintro H
  iapply (wp_done c); iapply (wp_done c); iapply Hk
  isplitl [H] <;> iassumption

end Cert.RingProof

end
-- ==== Proof.Region.lean ====
/-
# The kernel call: what it is given and what it leaves
-/
module

public import proofs.«01_k».proof.Proof.Body
public import proofs.«01_k».proof.Proof.Gen.KernelIdeal.Points

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg) (c : Dev nD)

/-- The scratch buffers, whole, at whatever they hold. -/
def scratch : sProp 𝕄 :=
  iprop(anyOf c pM ∗ anyOf c bcM ∗ anyOf c (sbM false) ∗ anyOf c (rbM false) ∗ anyOf c (sbM true) ∗ anyOf c (rbM true))
def Φ₀ : sProp 𝕄 := iprop((∃ K, Ghost m ρ K c) ∗ scratch (F := F) c)
def Φ₁ : sProp 𝕄 := iprop(scratch (F := F) c ∗ semVal (barCell c) 0 ∗ bigSepL order (zeroS (F := F) c) ∗ bigSepL rorder (zeroR (F := F) c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aStg m ρ c
    | ⟨1, _⟩ => bStg m ρ c
    | ⟨2, _⟩ => outFull m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The buffers cut as the protocol uses them; the slots no transfer uses are left over. -/
theorem room_intro : iprop(scratch (F := F) c ∗ ownsTc c aM fullShare (aStg m ρ c) ∗ ownsTc c bM fullShare (bStg m ρ c) ∗ anyOf c oM)
    ⊢ iprop(Room m ρ c ∗ spare c false ∗ spare c true) := by
  have hf := land_cut (F := F) c false
  have ht := land_cut (F := F) c true
  rw [show back false c = prv c from rfl] at hf
  rw [show back true c = nxt c from rfl] at ht
  unfold scratch Room
  iintro ⟨⟨Hp, Hbc, Hsf, Hrf, Hst, Hrt⟩, HA, HB, HO⟩
  ihave HO := (out_cut (F := F) c) $$ HO
  icases HO with ⟨HOf, HOt, HOo⟩
  ihave Hsf := (send_cut (F := F) c false) $$ Hsf
  ihave Hst := (send_cut (F := F) c true) $$ Hst
  icases Hsf with ⟨Hspf, Hsf⟩
  icases Hst with ⟨Hspt, Hst⟩
  isplitr [Hspf Hspt]
  · isplitl [Hrf HOf]; · iapply hf; isplitl [Hrf] <;> iassumption
    isplitl [Hrt HOt]; · iapply ht; isplitl [Hrt] <;> iassumption
    isplitl [Hsf Hst HOo]
    · iapply (free_cut (F := F) c); isplitl [Hsf]; · iexact Hsf
      isplitl [Hst] <;> iassumption
    isplitl [Hp]; · iapply (halves_cut (F := F) c); iexact Hp
    isplitl [HA]; · iexact HA
    isplitl [HB] <;> iassumption
  · isplitl [Hspf] <;> iassumption

/-- What is left at the end, whole again. -/
theorem room_exit (K : Dev nD × CI → ℕ) : iprop(St m ρ K c 24 24 24 24 8 ∗ spare c false ∗ spare c true)
    ⊢ iprop(scratch (F := F) c ∗ bigSepL order (zeroS (F := F) c) ∗ bigSepL rorder (zeroR (F := F) c) ∗ (∃ W, owes (c : Thread nD τ) 0 W)
        ∗ ownsTc c aM fullShare (aStg m ρ c) ∗ ownsTc c bM fullShare (bStg m ρ c) ∗ ownsTc c oM fullShare (outFull m ρ)) := by
  unfold St Eng opnds
  rw [show order.take 24 = order from rfl, show rorder.take 24 = rorder from rfl, show order.drop 24 = [] from rfl,
    show porder.take (2 * (8 - 2)) = porder from rfl, show Ow c [] = 0 from rfl]
  iintro ⟨⟨⟨-, HO, -, -, -, -, -, Hzs, Hzr⟩, ⟨HA, HB, HC⟩, -, -, -, Hpb, Hkept, Hsent⟩, Hspf, Hspt⟩
  ihave H := (mem_after m ρ c) $$ [Hpb Hkept Hsent Hspf Hspt]
  · isplitl [Hsent]; · iexact Hsent
    isplitl [Hpb]; · iexact Hpb
    isplitl [Hkept]; · iexact Hkept
    isplitl [Hspf] <;> iassumption
  icases H with ⟨Hout, Hp, Hsf, Hrf, Hst, Hrt⟩
  isplitl [HC Hp Hsf Hrf Hst Hrt]
  · unfold scratch
    isplitl [Hp]; · iexact Hp
    isplitl [HC]; · iapply (anyOf_intro c (bCast m ρ c)); iexact HC
    isplitl [Hsf]; · iexact Hsf
    isplitl [Hrf]; · iexact Hrf
    isplitl [Hst] <;> iassumption
  isplitl [Hzs]; · iexact Hzs
  isplitl [Hzr]; · iexact Hzr
  isplitl [HO]; · iexact HO
  isplitl [HA]; · iexact HA
  isplitl [HB] <;> iassumption

def bodyPre : sProp 𝕄 :=
  iprop(Φ₀ m ρ c ∗ (dats m ρ 0 c).owesAt () (t0_0 : Fin cfg0.N).castSucc
    ∗ (∃ d, ownsTc c aM fullShare ((dats m ρ 0 c).before (0 : Fin 3) t0_0 d))
    ∗ (∃ d, ownsTc c bM fullShare ((dats m ρ 0 c).before (1 : Fin 3) t0_0 d))
    ∗ (∃ d, ownsTc c oM fullShare ((dats m ρ 0 c).before (2 : Fin 3) t0_0 d)))
def bodyPost : sProp 𝕄 :=
  iprop(Φ₁ (F := F) c ∗ (dats m ρ 0 c).owesAt () (t0_0 : Fin cfg0.N).succ ∗ ownsTc c aM fullShare (aStg m ρ c) ∗ ownsTc c bM fullShare (bStg m ρ c)
    ∗ ownsTc c oM fullShare (outFull m ρ))

theorem before_a (d) : (dats m ρ 0 c).before (0 : Fin 3) t0_0 d = aStg m ρ c := by
  unfold Dat.before; rw [if_pos (fetch0_0 t0_0)]; rfl
theorem before_b (d) : (dats m ρ 0 c).before (1 : Fin 3) t0_0 d = bStg m ρ c := by
  unfold Dat.before; rw [if_pos (fetch0_1 t0_0)]; rfl

theorem sound_body : bodyPre m ρ c ⊢ Wp c (withArgs cc0_body) (fun _ => bodyPost m ρ c) := by
  unfold bodyPre Φ₀ Dat.owesAt Pipeline.owesWithin
  simp only [before_a, before_b]
  rw [show (dats m ρ 0 c).owed (t0_0 : Fin cfg0.N).castSucc = O₀ c from rfl]
  iintro ⟨⟨⟨%K, Hg⟩, Hscr⟩, ⟨%W, -, HO⟩, ⟨%d0, HA⟩, ⟨%d1, HB⟩, ⟨%d2, Hout⟩⟩
  ihave H := (room_intro m ρ c) $$ [Hscr HA HB Hout]
  · isplitl [Hscr]; · iexact Hscr
    isplitl [HA]; · iexact HA
    isplitl [HB]; · iexact HB
    iapply (anyOf_intro c ((dats m ρ 0 c).before (2 : Fin 3) t0_0 d2)); iexact Hout
  icases H with ⟨Hroom, Hsp⟩
  iapply (body_run m ρ K c) $$ [Hg Hroom HO]
  · isplitl [Hg]; · iexact Hg
    isplitl [Hroom]; · iexact Hroom
    iexists W; iexact HO
  iintro ⟨HS, Hbar⟩
  ihave H := (room_exit m ρ c K) $$ [HS Hsp]
  · isplitl [HS] <;> iassumption
  icases H with ⟨Hscr, Hzs, Hzr, ⟨%W', HO⟩, HA, HB, Hout⟩
  unfold bodyPost Φ₁ Dat.owesAt Pipeline.owesWithin
  rw [show (dats m ρ 0 c).owed (t0_0 : Fin cfg0.N).succ = 0 from rfl]
  isplitl [Hscr Hbar Hzs Hzr]
  · isplitl [Hscr]; · iexact Hscr
    isplitl [Hbar]; · iexact Hbar
    isplitl [Hzs] <;> iassumption
  isplitl [HO]
  · iexists W'
    isplitr; · ipureintro; exact fun _ _ => Or.inl trivial
    iexact HO
  isplitl [HA]; · iexact HA
  isplitl [HB] <;> iassumption

set_option maxRecDepth 20000 in
theorem body_obligation : BodyObligation (dats (F := F) m ρ 0 c) (defs₀ (F := F)) 𝒱₀ () Set.univ := fun t => by
  rw [fin_N0 t, bigSep_W0, bigSep_W0]
  show bodyPre m ρ c ⊢ Wp c (withArgs cc0_body) (fun _ => bodyPost m ρ c)
  exact sound_body m ρ c

end Cert.RingProof

end
-- ==== Proof.Launch.lean ====
/-
# The launch: the cells funded, the tokens dealt round the ring, the run
-/
module

public import proofs.«01_k».proof.Proof.Region
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The cells of one device, listed -/

variable (m : (ℓ : Loc nD τ sig) → Buf (Elt F) ℓ) (ρ : Dev nD → PrngReg) (c : Dev nD)

theorem csem_inj : Function.Injective csem := by
  intro a b h
  rcases a with _ | ⟨_ | _, t⟩ <;> rcases b with _ | ⟨_ | _, t'⟩ <;> unfold csem at h <;> dsimp only at h
  · rfl
  · cases h
  · cases h
  · cases h
  · rw [sendQ_inj (SemLoc.dma.inj h)]
  · exact absurd (SemLoc.dma.inj h) (sendQ_ne_recvQ _ _)
  · cases h
  · exact absurd (SemLoc.dma.inj h).symm (sendQ_ne_recvQ _ _)
  · rw [recvQ_inj (SemLoc.dma.inj h)]
theorem kcell_injective : Function.Injective kcell := by
  rintro ⟨c, k⟩ ⟨c', k'⟩ h
  have h1 : c = c' := congrArg (fun g : GSem nD τ sig => g.1.1) h
  have h2 : k = k' := csem_inj (congrArg Prod.snd h)
  rw [h1, h2]
theorem order_perm : order.Perm rorder := by decide
theorem order_nodup : order.Nodup := by decide
theorem order_all (t : Xfer) : t ∈ order := by revert t; decide

/-- The kernel's own semaphores: a send and a receive one per transfer. -/
abbrev osem (x : Bool × Xfer) : SemLoc sig := csem (some x)
/-- Both kinds, in the order of the program. -/
def both : List (Bool × Xfer) := order.map (Prod.mk false) ++ rorder.map (Prod.mk true)
theorem both_all : (Finset.univ : Finset (Bool × Xfer)) = both.toFinset := by decide +kernel
theorem both_nodup : both.Nodup := by decide +kernel

theorem bigSep_both (Φ : Bool × Xfer → sProp 𝕄) :
    bigSep Finset.univ Φ = iprop(bigSepL order (fun t => Φ (false, t)) ∗ bigSepL rorder (fun t => Φ (true, t))) := by
  rw [bigSep_univ_eq_bigSepL both both_all both_nodup]; unfold both; rw [bigSepL_append, bigSepL_map, bigSepL_map]
theorem bigSep_opt {I : Type} [Fintype I] [DecidableEq I] (Φ : Option I → sProp 𝕄) :
    bigSep Finset.univ Φ = iprop(Φ none ∗ bigSep Finset.univ fun x => Φ (some x)) := by
  have h : (Finset.univ : Finset (Option I)).erase none = Finset.univ.map ⟨some, Option.some_injective I⟩ := by
    ext x; cases x <;> simp
  rw [bigSep_univ_at Φ none, h, bigSep_map]; rfl
theorem bigSep_sum {I J : Type} [Fintype I] [DecidableEq I] [Fintype J] [DecidableEq J] (Φ : I ⊕ J → sProp 𝕄) :
    bigSep Finset.univ Φ = iprop((bigSep Finset.univ fun x => Φ (.inl x)) ∗ bigSep Finset.univ fun x => Φ (.inr x)) := by
  have h : (Finset.univ : Finset (I ⊕ J)) = Finset.univ.map ⟨Sum.inl, Sum.inl_injective⟩ ∪ Finset.univ.map ⟨Sum.inr, Sum.inr_injective⟩ := by
    ext x; cases x <;> simp
  have hd : Disjoint (Finset.univ.map (⟨Sum.inl, Sum.inl_injective⟩ : I ↪ I ⊕ J)) (Finset.univ.map (⟨Sum.inr, Sum.inr_injective⟩ : J ↪ I ⊕ J)) := by
    rw [Finset.disjoint_left]; intro x hx hy
    obtain ⟨a, _, rfl⟩ := Finset.mem_map.mp hx; obtain ⟨b, _, hb⟩ := Finset.mem_map.mp hy; cases hb
  rw [h, bigSep_union hd, bigSep_map, bigSep_map]; rfl
theorem bigSep_cells (Φ : CI → sProp 𝕄) : bigSep Finset.univ Φ
    = iprop(Φ none ∗ bigSepL order (fun t => Φ (some (false, t))) ∗ bigSepL rorder (fun t => Φ (some (true, t)))) := by
  rw [bigSep_opt, bigSep_both]
/-- A product over the devices of a list's products, the list outside. -/
theorem bigSep_list {I : Type} [Fintype I] [DecidableEq I] {J : Type} (l : List J) (Φ : I → J → sProp 𝕄) :
    (bigSep Finset.univ fun c => bigSepL l (Φ c)) = bigSepL l fun t => bigSep Finset.univ fun c => Φ c t := by
  induction l with
  | nil => exact bigSep_emp_const _
  | cons a l ih =>
    simp only [listSep_cons]
    rw [bigSep_sep', ih]

theorem bigSepL_both {J : Type} (l : List J) (Φ Ψ : J → sProp 𝕄) : bigSepL l (fun t => iprop(Φ t ∗ Ψ t)) = iprop(bigSepL l Φ ∗ bigSepL l Ψ) := by
  induction l with
  | nil => exact (equiv_iff.mp emp_sep).symm
  | cons a l ih =>
    rw [listSep_cons, listSep_cons, listSep_cons, ih]
    refine equiv_iff.mp ⟨?_, ?_⟩
    · show iprop((Φ a ∗ Ψ a) ∗ bigSepL l Φ ∗ bigSepL l Ψ) ⊢ iprop((Φ a ∗ bigSepL l Φ) ∗ Ψ a ∗ bigSepL l Ψ)
      iintro ⟨⟨H1, H2⟩, H3, H4⟩; isplitl [H1 H3]
      · isplitl [H1] <;> iassumption
      · isplitl [H2] <;> iassumption
    · show iprop((Φ a ∗ bigSepL l Φ) ∗ Ψ a ∗ bigSepL l Ψ) ⊢ iprop((Φ a ∗ Ψ a) ∗ bigSepL l Φ ∗ bigSepL l Ψ)
      iintro ⟨⟨H1, H3⟩, H2, H4⟩; isplitl [H1 H2]
      · isplitl [H1] <;> iassumption
      · isplitl [H3] <;> iassumption

/-! ## What the launch mints -/

def ringCells : Finset (GSem nD τ sig) := Finset.univ.map ⟨kcell, kcell_injective⟩

/-- The duties of one device's cells: the barrier's two, and one of every other cell. -/
abbrev DI : Type := Bool ⊕ (Bool × Xfer)
def dutyOf : DI → CI × Bool
  | .inl b => (none, b)
  | .inr x => (some x, false)
theorem dutyOf_inj : Function.Injective dutyOf := by
  rintro (a | a) (b | b) h <;> cases h <;> rfl
def tokOf (x : Dev nD × DI) : GSem nD τ sig × ℕ × Bool := (kcell (x.1, (dutyOf x.2).1), 0, (dutyOf x.2).2)
theorem tokOf_injective : Function.Injective tokOf := by
  rintro ⟨c, j⟩ ⟨c', j'⟩ h
  have h1 := kcell_injective (congrArg Prod.fst h)
  have h2 : (dutyOf j).2 = (dutyOf j').2 := congrArg (fun x : GSem nD τ sig × ℕ × Bool => x.2.2) h
  have h3 : j = j' := dutyOf_inj (Prod.ext (congrArg Prod.snd h1) h2)
  rw [show c = c' from congrArg Prod.fst h1, h3]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks : sProp 𝕄 :=
  iprop((dutyTok ER (barCell c) 0 false ∗ dutyTok ER (barCell c) 0 true)
    ∗ bigSepL order (fun t => dutyTok ER (sendCell t c) 0 false) ∗ bigSepL rorder (fun t => dutyTok ER (recvCell t c) 0 false))
theorem toks_eq : (bigSep Finset.univ fun j : DI => (dutyTok ER (tokOf (c, j)).1 (tokOf (c, j)).2.1 (tokOf (c, j)).2.2 : sProp 𝕄)) = toks c := by
  rw [bigSep_sum, bigSep_both, bigSep_univ_eq_bigSepL [false, true] (by decide) (by decide), bigSepL_cons_cons, bigSepL_singleton]
  rfl

def G : sProp 𝕄 :=
  iprop((bigSep Finset.univ fun k : CI => roundState ER (ringRd m ρ) (kcell (c, k)) 0)
    ∗ (bigSep Finset.univ fun k : CI => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants allocated -/

theorem ownSemFacts : Pipeline.OwnSemFacts cfg0.spec osem where
  isScoped := by decide +kernel
  inj := fun a b h => Option.some_injective _ (csem_inj h)
  disj := fun ⟨b, t⟩ w s => by revert b t w s; decide +kernel

theorem unscopedSems0_eq : (unscopedSems0 c : sProp 𝕄) = semVal (barCell c) 0 := by
  unfold unscopedSems0; rw [bigSep_eq_bigSepL_of_eq [SemLoc.reg barS] (by decide) (by decide)]; rfl

theorem sems0_eq :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_opt]; unfold Pipeline.ownSems0
  iintro ⟨HS, HB⟩
  isplitl [HB]; · iexact HB
  iexact HS

theorem core_alloc :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (ringRd m ρ) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (ringRd m ρ) (kcell (c, k)) 0)
      ⊢ (|={Set.univ}=> bigSep Finset.univ fun k : CI => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device knows of the cells, the levels apart. -/
def known (K : Dev nD × CI → ℕ) : sProp 𝕄 :=
  iprop((bigSep Finset.univ fun ck : Dev nD × CI => cellInv ER (ringRd m ρ) (K ck) (kcell ck))
    ∗ bigSep Finset.univ fun ck : Dev nD × CI => reached ER (kcell ck) 0)
instance known_persistent (K : Dev nD × CI → ℕ) : BI.Persistent (known m ρ K) := by unfold known; infer_instance

/-- The tokens of the duties device `c` pays. -/
def payToks : sProp 𝕄 :=
  iprop((dutyTok ER (barCell (prv c)) 0 false ∗ dutyTok ER (barCell (nxt c)) 0 true) ∗ bigSepL order (sendToks (F := F) c))
/-- Its positions. -/
def spots : sProp 𝕄 :=
  iprop(atPos ER (barCell c) 0 ∅ 0 ∗ bigSepL order (sendPos (F := F) c) ∗ bigSepL rorder (fun t => atPos ER (recvCell t c) 0 ∅ 0))
def G' : sProp 𝕄 := iprop(∃ K, known m ρ K ∗ spots c ∗ payToks c)

/-- The tokens dealt round the ring: a barrier's one forward, one backward, a receive cell's in its transfer's direction. -/
theorem toks_around : (bigSep Finset.univ fun c : Dev nD => (toks c : sProp 𝕄)) ⊢ bigSep Finset.univ fun c : Dev nD => payToks c := by
  have hr : (bigSep Finset.univ fun c : Dev nD => bigSepL rorder fun t => (dutyTok ER (recvCell t c) 0 false : sProp 𝕄))
      = bigSep Finset.univ fun c : Dev nD => bigSepL order fun t => dutyTok ER (recvCell t (fwd t.2.1 c)) 0 false := by
    rw [bigSep_list, bigSep_list, ← TalkSites.bigSepL_perm order_perm order_nodup]
    exact congrArg (bigSepL order) (funext fun t => bigSep_univ_equiv (ring t.2.1) (fun c : Dev nD => (dutyTok ER (recvCell t c) 0 false : sProp 𝕄)))
  have hs : (fun c : Dev nD => (bigSepL order (sendToks (F := F) c) : sProp 𝕄))
      = fun c => iprop(bigSepL order (fun t => dutyTok ER (sendCell t c) 0 false) ∗ bigSepL order fun t => dutyTok ER (recvCell t (fwd t.2.1 c)) 0 false) :=
    funext fun c => bigSepL_both _ _ _
  unfold toks payToks
  rw [bigSep_sep', bigSep_sep', bigSep_sep', bigSep_sep', bigSep_sep', hr, hs, bigSep_sep',
    bigSep_univ_equiv (ring true) (fun c : Dev nD => (dutyTok ER (barCell c) 0 false : sProp 𝕄)),
    bigSep_univ_equiv (ring false) (fun c : Dev nD => (dutyTok ER (barCell c) 0 true : sProp 𝕄))]
  exact .rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (ringRd m ρ) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (ringRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  have hsp : (bigSep Finset.univ fun c : Dev nD => bigSep Finset.univ fun k : CI => (atPos ER (kcell (c, k)) 0 ∅ 0 : sProp 𝕄))
      = bigSep Finset.univ fun c : Dev nD => spots c :=
    bigSep_congr fun c _ => by unfold spots; rw [bigSep_cells]; rfl
  iintro ⟨HI, ⟨Hat, #HR⟩, Htok⟩
  ihave HK := (BI.bigSep_exists_pi Finset.univ (fun (ck : Dev nD × CI) (κ : ℕ) => (cellInv ER (ringRd m ρ) κ (kcell ck) : sProp 𝕄))) $$ HI
  icases HK with ⟨%K, #HI⟩
  ihave Htk := (toks_around (F := F)) $$ Htok
  iapply (with_persistent (R := known m ρ K) (Φ := fun c => iprop(spots c ∗ payToks c)) fun c _ => by unfold G'; iintro H; iexists K; iexact H)
  isplitr
  · unfold known; isplitl; · iexact HI
    iexact HR
  · rw [bigSep_sep']
    isplitl [Hat]
    · iapply (Entails.of_eq hsp); iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem Ow_none (d : Dev nD) (ts : List Xfer) (g : GSem nD τ sig) (h : ∀ t c, g ≠ recvCell t c) : Ow d ts g () = 0 := by
  by_contra hn
  obtain ⟨t, _, e⟩ := Ow_pos (Nat.pos_of_ne_zero hn)
  exact h _ _ e
theorem bar_ne_recv (c c' : Dev nD) (t : Xfer) : barCell c ≠ recvCell t c' := fun h => by cases congrArg Prod.snd h
theorem bar_inj {a b : Dev nD} (h : barCell a = barCell b) : a = b := congrArg (fun g : GSem nD τ sig => g.1.1) h
theorem recv_inj {a b : Dev nD} {t t' : Xfer} (h : recvCell t a = recvCell t' b) : t = t' ∧ a = b :=
  ⟨recvQ_inj (SemLoc.dma.inj (congrArg Prod.snd h)), congrArg (fun g : GSem nD τ sig => g.1.1) h⟩

/-- What `d` owes `c`'s barrier: a unit as its next device, a unit as its previous one. -/
theorem owed_bar (d c : Dev nD) : O₀ d (barCell c) () = (if d = prv c then 1 else 0) + (if d = nxt c then 1 else 0) := by
  have hn : (barCell c = barCell (nxt d) ∧ () = ()) ↔ d = prv c :=
    ⟨fun h => by rw [bar_inj h.1]; exact (back_fwd false d).symm, fun h => ⟨by rw [h]; exact congrArg barCell (fwd_back false c).symm, rfl⟩⟩
  have hp : (barCell c = barCell (prv d) ∧ () = ()) ↔ d = nxt c :=
    ⟨fun h => by rw [bar_inj h.1]; exact (back_fwd true d).symm, fun h => ⟨by rw [h]; exact congrArg barCell (fwd_back true c).symm, rfl⟩⟩
  unfold O₀ O₁
  rw [Pi.add_apply, Finsupp.add_apply, Pi.add_apply, Finsupp.add_apply, Ow_none d order _ (fun t c' => bar_ne_recv c c' t), tallyAt_apply, tallyAt_apply, Nat.zero_add]
  exact congrArg₂ (· + ·) (if_congr hn rfl rfl) (if_congr hp rfl rfl)

theorem Ow_recv (d c : Dev nD) (t : Xfer) (ts : List Xfer) : Ow d ts (recvCell t c) () = ts.count t * (if d = back t.2.1 c then N else 0) := by
  induction ts with
  | nil => rw [List.count_nil, Nat.zero_mul]; rfl
  | cons a ts ih =>
    unfold Ow
    rw [Pi.add_apply, Finsupp.add_apply, ih, tallyAt_apply, List.count_cons, Nat.add_mul]
    congr 1
    by_cases ha : a = t
    · subst ha
      have h : (recvCell a c = recvCell a (fwd a.2.1 d) ∧ () = ()) ↔ d = back a.2.1 c :=
        ⟨fun h => by rw [(recv_inj h.1).2, back_fwd], fun h => ⟨by rw [h, fwd_back], rfl⟩⟩
      rw [if_pos (beq_self_eq_true a), Nat.one_mul]; exact if_congr h rfl rfl
    · rw [if_neg (fun h => ha (recv_inj h.1).1.symm), if_neg (fun h => ha (beq_iff_eq.mp h)), Nat.zero_mul]
theorem owed_recv (d c : Dev nD) (t : Xfer) : O₀ d (recvCell t c) () = if d = back t.2.1 c then N else 0 := by
  unfold O₀ O₁
  rw [Pi.add_apply, Finsupp.add_apply, Pi.add_apply, Finsupp.add_apply, Ow_recv, List.count_eq_one_of_mem order_nodup (order_all t), Nat.one_mul,
    tallyAt_ne_cell (fun h => bar_ne_recv _ _ _ h.symm), tallyAt_ne_cell (fun h => bar_ne_recv _ _ _ h.symm), Finsupp.zero_apply, Nat.add_zero, Nat.add_zero]

theorem launch_bar : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_recv (t : Xfer) : tallyOn (recvCell t c) (launchCredit (Pipeline.owing O₀) 0 (recvCell t c)) = (tallyAt (recvCell t c) () N : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (back t.2.1 c) fun _ => N,
    if_pos (Finset.mem_univ _)]

theorem creds : (Pipeline.launchCred O₀ c : sProp 𝕄)
    ⊢ iprop(cred (tallyAt (barCell c) () 2) ∗ bigSepL rorder fun t => cred (tallyAt (recvCell t c) () N)) := by
  have hr : (fun t : Xfer => (cred (tallyAt (recvCell t c) () N) : sProp 𝕄))
      = fun t => cred (tallyOn (recvCell t c) (launchCredit (Pipeline.owing O₀) 0 (recvCell t c))) := funext fun t => by rw [launch_recv]
  have hn : (rorder.map fun t => (SemLoc.dma (recvQ t) : SemLoc sig)).Nodup :=
    List.Nodup.map (fun a b h => recvQ_inj (SemLoc.dma.inj h)) (order_perm.nodup_iff.mp order_nodup)
  unfold Pipeline.launchCred
  rw [bigSep_univ_at _ (SemLoc.reg barS), launch_bar, hr, ← bigSepL_map (fun t => (SemLoc.dma (recvQ t) : SemLoc sig)) rorder
      (fun sm => (cred (tallyOn ((c : Thread nD τ), sm) (launchCredit (Pipeline.owing O₀) 0 ((c : Thread nD τ), sm))) : sProp 𝕄)),
    ← bigSep_eq_bigSepL_of_eq _ rfl hn]
  refine sep_mono_right (bigSep_subset fun sm h => ?_)
  obtain ⟨t, _, rfl⟩ := List.mem_map.mp (List.mem_toFinset.mp h)
  exact Finset.mem_erase.mpr (And.intro (fun h => by cases h) (Finset.mem_univ _))

/-! ## The side conditions of the launch -/

theorem share_eq (w : Fin cfg0.W) : (dats m ρ 0 c).share w = fullShare := by unfold Dat.share; split <;> rfl

def start : sProp 𝕄 := iprop(∃ K, Ghost m ρ K c)

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hr : (bigSepL rorder (recvRes (F := F) c) : sProp 𝕄)
      = iprop(bigSepL rorder (fun t => cred (tallyAt (recvCell t c) () N)) ∗ bigSepL rorder fun t => atPos ER (recvCell t c) 0 ∅ 0) := bigSepL_both _ _ _
  iintro ⟨-, Hlev, Hcr, -, HG⟩
  ihave Hc := (creds (F := F) c) $$ Hcr
  icases Hc with ⟨HcB, HcR⟩
  imodintro
  unfold start G' known spots payToks Ghost records
  rw [hr]
  icases HG with ⟨%K, ⟨HI, HR⟩, ⟨HatB, HatS, HatR⟩, ⟨HtP, HtN⟩, Htoks⟩
  isplitl
  · iexists K
    isplitl [Hlev HI HR]
    · isplitl [Hlev]; · iexact Hlev
      isplitl [HI] <;> iassumption
    isplitl [HtP]; · iexact HtP
    isplitl [HtN]; · iexact HtN
    isplitl [HcB]; · iexact HcB
    isplitl [HatB]; · iexact HatB
    isplitl [Htoks]; · iexact Htoks
    isplitl [HatS]; · iexact HatS
    isplitl [HcR] <;> iassumption
  · iempintro

theorem any_whole (b : Ref sig .tc) :
    (iprop(∃ f : Buf (Elt F) (((c : Dev nD) : Thread nD τ).loc b), (((c : Thread nD τ).loc b) ↦{fullShare} f)) : sProp 𝕄)
      = iprop(∃ X, owns (c : Thread nD τ) (Memref.whole b) fullShare X) := by
  have h : ∀ X : b.ty.Contents (Elt F), (owns (c : Thread nD τ) (Memref.whole b) fullShare X : sProp 𝕄)
      = iprop(∃ f : Buf (Elt F) ((c : Thread nD τ).loc b), ⌜f = X⌝ ∗ (((c : Thread nD τ).loc b) ↦{fullShare} f)) := fun X => by
    unfold owns; simp only [Memref.view_whole, View.read_whole, View.set_whole]
  have h1 : (iprop(∃ f : Buf (Elt F) (((c : Dev nD) : Thread nD τ).loc b), (((c : Thread nD τ).loc b) ↦{fullShare} f)) : sProp 𝕄)
      ⊢ iprop(∃ X, owns (c : Thread nD τ) (Memref.whole b) fullShare X) := by
    iintro ⟨%f, H⟩; iexists f; rw [h f]; iexists f; isplitr; · ipureintro; rfl
    iexact H
  have h2 : (iprop(∃ X, owns (c : Thread nD τ) (Memref.whole b) fullShare X) : sProp 𝕄)
      ⊢ iprop(∃ f : Buf (Elt F) (((c : Dev nD) : Thread nD τ).loc b), (((c : Thread nD τ).loc b) ↦{fullShare} f)) := by
    iintro ⟨%X, H⟩
    ihave H := (Entails.of_eq (h X)) $$ H
    icases H with ⟨%f, -, H⟩; iexists f; iexact H
  exact equiv_iff.mp ⟨h1, h2⟩

theorem scratch_eq : (Pipeline.scopedRest cfg0.spec c : sProp 𝕄) = scratch c := by
  rw [show cfg0.spec = spec0 from rfl, scopedRest0_eq]
  simp only [any_whole]
  rfl

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀ start
  iintro ⟨Hs, -, Hr⟩
  isplitl [Hs] <;> iassumption

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, unscopedSems0_eq]
  unfold Φ₁ Pipeline.ownSems0
  rw [bigSep_both]
  iintro ⟨Hr, HzB, HzS, HzR⟩
  isplitl [HzB]; · iexact HzB
  isplitr [Hr]
  · isplitl [HzS]; · iexact HzS
    iexact HzR
  iexact Hr

theorem waits : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

/-! ## The run -/

def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with zero counters: every weakly fair execution ends, each
    device's arrays at their final contents, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingProof

end
-- ==== Proof.Value.lean ====
/-
# The value: what every device ends with is gelu of the whole product

Over the extended reals a change of format is the identity and a sum may be taken in any order, so the four partial
products that the ring adds up, one per device, are the one product over the whole contracted axis.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Lib.MatmulPlain
public import Idealize.ShloMosaic.Lib.StackMember
public import Idealize.ShloMosaic.Lib.Layout
public import Idealize.ShloMosaic.Lib.Pipeline.Value
public import Idealize.ShloMosaic.Lib.Pipeline.ValueKit.Acc
public import Idealize.ShloMosaic.Lib.Quiescent

@[expose] public section

noncomputable section

namespace Cert.RingProof

open Cert.KernelIdeal Cert.KernelIdeal.Gen

open Idealize.ShloMosaic
open Idealize.ShloMosaic.TcCoe
open Idealize.SL.Sem
open Idealize.ShloMosaic.ValueIdx (ix2 eq_ix2)
open scoped BigOperators

/-! ## The arrays after the run -/

section Arrays
variable {F : FTy → Type} [FloatOps F]
variable (m : (ℓ : Loc nD τ sig) → Buf (Elt F) ℓ) (ρ : Dev nD → PrngReg) (c : Dev nD)

theorem final_a : finalA m ρ c (0 : Fin 3) = m ((c : Thread nD τ).loc main_arg0) := (dats m ρ 0 c).arrAt_in (0 : Fin 3) rfl _
theorem final_b : finalA m ρ c (1 : Fin 3) = m ((c : Thread nD τ).loc main_arg1) := (dats m ρ 0 c).arrAt_in (1 : Fin 3) rfl _

theorem aStg_eq : aStg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem bStg_eq : bStg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

theorem final_out : finalA m ρ c (2 : Fin 3) = outFull m ρ := by
  have h : (win0_2.blk (0 : Fin 1)).view.read (Elt F) (finalA m ρ c (2 : Fin 3)) = outFull m ρ := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans h

/-- Every run ends, each device holding the computed rows in its result and its operands as they were. -/
theorem run_out : θ_run defs (onTc (τ := τ) (main (F := F))) ⟨m, fun _ => 0, ρ⟩ fun r =>
    (∀ c : Dev nD, r.2.mem ((c : Thread nD τ).loc main_v1) = outFull m ρ
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => ⟨(h.1 c (2 : Fin 3)).trans (final_out m ρ c), (h.1 c (0 : Fin 3)).trans (final_a m ρ c),
    (h.1 c (1 : Fin 3)).trans (final_b m ρ c)⟩, h.2⟩) (run_main m ρ)

/-- The same without the result. -/
theorem run_kept : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => (h.1 c).2, h.2⟩) (run_out m ρ)
end Arrays

/-! ## The frames -/

/-- The program and its ideal text have the same bodies. -/
theorem bodies_eq : Cert.Kernel.defs₀ (F := Bits) = Cert.KernelIdeal.defs₀ (F := Bits) := by
  unfold Cert.Kernel.defs₀ Cert.KernelIdeal.defs₀
  refine congrArg (Defs.onTc (nD := nD) (τ := τ) (sig := sig) (Val := Elt Bits) (Λ := Cert.KernelIdeal.Λ₀)) ?_
  funext l a
  match l, a with
  | 0, (t, s) => rfl
theorem defs_eq : Cert.Kernel.defs (F := Bits) = Cert.KernelIdeal.defs (F := Bits) := congrArg (Pipeline.defs Cert.KernelIdeal.pcfgs) bodies_eq

theorem frame_kernel : Cert.quiescent_Kernel := by
  intro m ρ _
  have h := run_kept (F := Bits) m ρ
  rw [← defs_eq] at h
  exact h
theorem frame_ideal : Cert.quiescent_KernelIdeal := fun m ρ _ => run_kept (F := Ideal) m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## One partial product over the extended reals -/

theorem pay1_eq {F : FTy → Type} [FloatOps F] (B : Vec F S768x1536 .bf16) : k0_pay1 B = B := by
  unfold k0_pay1
  simp only [shapeCast_self]

theorem dot_plain : dot_S192x768_S768x1536_S192x1536_1_0_0_1_n_n = DotDims.plain 192 768 1536 := rfl

theorem pay2_apply (A : Vec Ideal S192x768 .bf16) (B : Vec Ideal S768x1536 .bf16) (r : Fin 192) (l : Fin 1536) :
    (k0_pay2 A B (ix2 r l) : EReal) = ∑ k : Fin 768, (A (ix2 r k) : EReal) * B (ix2 k l) := by
  unfold k0_pay2
  simp only [shapeCast_self]
  show (FloatOps.matmul (F := Ideal) (φ₁ := .bf16) (φ₂ := .bf16) dot_S192x768_S768x1536_S192x1536_1_0_0_1_n_n none A B (constant S192x1536 .f32 0x00000000#32) (ix2 r l) : EReal) = _
  rw [dot_plain, Ideal.matmul_plain_apply]
  show Ideal.ofBits .f32 0x00000000#32 + _ = _
  rw [Ideal.ofBits_zero_f32, zero_add]

/-- The row of the result at which row `r` of band `(q, d, j)` lies. -/
def rowOf (q : Dev nD) (d : Bool) (j : Fin 2) (r : Fin 96) : Fin 1536 :=
  ⟨96 * (bd q d j).val + r.val, by have := (bd q d j).isLt; omega⟩

section Parts
variable (m : (ℓ : Loc nD τ sig) → Buf (Elt Ideal) ℓ) (ρ : Dev nD → PrngReg)

/-- Device `c`'s share of one entry of the product. -/
def share (c : Dev nD) (r l : Fin 1536) : EReal :=
  ∑ k : Fin 768, (aStg m ρ c (ix2 r k) : EReal) * bStg m ρ c (ix2 k l)

theorem part_apply (c q : Dev nD) (d : Bool) (j : Fin 2) (r : Fin 96) (l : Fin 1536) :
    (partV m ρ c q d j (ix2 r l) : EReal) = share m ρ c (rowOf q d j r) l := by
  have hi : (subR j).emb (ix2 r l) = ix2 (⟨96 * j.val + r.val, by have := j.isLt; omega⟩ : Fin 192) l := by
    funext a
    apply Fin.ext
    match a with
    | ⟨0, _⟩ => show 96 * j.val + 1 * r.val = 96 * j.val + r.val; omega
    | ⟨1, _⟩ => show 0 + 1 * l.val = l.val; omega
  show (halfV m ρ c q d ((subR j).emb (ix2 r l)) : EReal) = _
  rw [hi]
  unfold halfV
  rw [pay2_apply]
  unfold bCast share
  rw [pay1_eq]
  refine Finset.sum_congr rfl fun k _ => ?_
  have hr : (halfAR (hf q d)).emb (ix2 (⟨96 * j.val + r.val, by have := j.isLt; omega⟩ : Fin 192) k) = ix2 (rowOf q d j r) k := by
    funext a
    apply Fin.ext
    match a with
    | ⟨0, _⟩ => show 192 * (hf q d).val + 1 * (96 * j.val + r.val) = 96 * (2 * (hf q d).val + j.val) + r.val; omega
    | ⟨1, _⟩ => show 0 + 1 * k.val = k.val; omega
  unfold rowsA
  rw [hr]

theorem add_step (X Y : Vec Ideal S96x1536 .bf16) (i : S96x1536.Idx) : (sq (k0_pay7 (unsq X) Y) i : EReal) = X i + Y i := by
  have h : sq (k0_pay7 (unsq X) Y) = sq (unsq (truncf .bf16 (addf (extf .f32 (sq (unsq X)) bitsLt_bf16_f32) (extf .f32 Y bitsLt_bf16_f32)) bitsLt_bf16_f32)) := rfl
  rw [h, sq_unsq, sq_unsq]
  rfl

theorem add_last (X Y : Vec Ideal S96x1536 .bf16) (i : S96x1536.Idx) : (k0_pay21 (unsq X) Y i : EReal) = X i + Y i := by
  have h : k0_pay21 (unsq X) Y = addf (extf .f32 (sq (unsq X)) bitsLt_bf16_f32) (extf .f32 Y bitsLt_bf16_f32) := rfl
  rw [h, sq_unsq]
  rfl

theorem around (d : Bool) (q : Dev nD) : back d (back d (back d (back d q))) = q := by revert d q; decide

/-- The four devices a band passes, from the one whose band it is back to it, are all of them. -/
theorem all_devices (f : Dev nD → EReal) (d : Bool) (q : Dev nD) :
    f q + f (back d (back d (back d q))) + f (back d (back d q)) + f (back d q) = ∑ c : Dev nD, f c := by
  have hn : [q, back d (back d (back d q)), back d (back d q), back d q].Nodup := by revert d q; decide
  have hu : (Finset.univ : Finset (Dev nD)) = [q, back d (back d (back d q)), back d (back d q), back d q].toFinset := by revert d q; decide
  rw [hu, List.sum_toFinset f hn]
  simp only [List.map_cons, List.map_nil, List.sum_cons, List.sum_nil, add_zero, add_assoc]

theorem sum_apply (q : Dev nD) (d : Bool) (j : Fin 2) (r : Fin 96) (l : Fin 1536) :
    (k0_pay21 (unsq (accV m ρ d j 2 (back d (back d q)))) (partV m ρ (back d q) q d j) (ix2 r l) : EReal)
      = ∑ c : Dev nD, share m ρ c (rowOf q d j r) l := by
  rw [add_last, ← all_devices _ d q]
  have h0 : ck d (back d (back d (back d (back d q)))) 0 = q := around d q
  have h1 : ck d (back d (back d (back d q))) (0 + 1) = q := around d q
  have h2 : ck d (back d (back d q)) (1 + 1) = q := around d q
  have e : (accV m ρ d j 2 (back d (back d q)) (ix2 r l) : EReal)
      = accV m ρ d j 1 (back d (back d (back d q))) (ix2 r l) + partV m ρ (back d (back d q)) (ck d (back d (back d q)) (1 + 1)) d j (ix2 r l) := add_step _ _ _
  have e' : (accV m ρ d j 1 (back d (back d (back d q))) (ix2 r l) : EReal)
      = partV m ρ (back d (back d (back d (back d q)))) (ck d (back d (back d (back d (back d q)))) 0) d j (ix2 r l)
        + partV m ρ (back d (back d (back d q))) (ck d (back d (back d (back d q))) (0 + 1)) d j (ix2 r l) := add_step _ _ _
  rw [e, e', h0, h1, h2, around]
  simp only [part_apply]
end Parts

/-! ## The reference -/

/-- The reference's result from the product. -/
def refOf (Z : FVec Ideal S1536x1536 .f32) : FVec Ideal S1536x1536 .bf16 :=
  let b := fun w : BitVec 32 => (broadcastInDim S1536x1536 ![] Cert.ReferenceIdeal.Gen.facts.bcast_S_S1536x1536 (constant Cert.ReferenceIdeal.S_ .f32 w) : FVec Ideal S1536x1536 .f32)
  truncf .bf16 (mulf (mulf (b 0x3F000000#32) Z) (addf (b 0x3F800000#32)
    (Host.tanh (mulf (b 0x3F4C422A#32) (addf Z (mulf (mulf (mulf (b 0x3D372713#32) Z) Z) Z)))))) Cert.KernelIdeal.Gen.facts.bitsLt_bf16_f32

/-- The activation of one band is the reference's, read at the band's rows. -/
theorem act_eq (Z : FVec Ideal S1536x1536 .f32) (W : FVec Ideal S96x1536 .f32) (i : S96x1536.Idx) (x : S1536x1536.Idx) (h : W i = Z x) :
    k0_pay22 W i = refOf Z x := by
  have e : k0_pay22 W i = k0_pay22 (fun _ => W i) i := rfl
  rw [e, h]
  rfl

theorem ref_dot_plain : Cert.ReferenceIdeal.dot_S1536x3072_S3072x1536_S1536x1536_1_0_0_1_n_n = DotDims.plain 1536 3072 1536 := rfl

/-- One entry of the whole product is the sum of the four devices' shares of it. -/
theorem whole_apply (m : (ℓ : Loc nD τ sig) → Buf (Elt Ideal) ℓ) (ρ : Dev nD → PrngReg)
    (A : FVec Ideal ⟨2, ![1536, 3072]⟩ .bf16) (B : FVec Ideal ⟨2, ![3072, 1536]⟩ .bf16)
    (hA : ∀ c : Dev nD, m ((c : Thread nD τ).loc main_arg0) = Layout.block ⟨2, ![1536, 768]⟩ ⟨2, ![1536, 3072]⟩ 1 4 c A)
    (hB : ∀ c : Dev nD, m ((c : Thread nD τ).loc main_arg1) = Layout.block ⟨2, ![768, 1536]⟩ ⟨2, ![3072, 1536]⟩ 0 4 c B)
    (r l : Fin 1536) :
    ∑ c : Dev nD, share m ρ c r l
      = (Host.dotGeneral Cert.ReferenceIdeal.dot_S1536x3072_S3072x1536_S1536x1536_1_0_0_1_n_n none A B (ix2 r l) : EReal) := by
  have hd : (Host.dotGeneral Cert.ReferenceIdeal.dot_S1536x3072_S3072x1536_S1536x1536_1_0_0_1_n_n none A B (ix2 r l) : EReal)
      = ∑ k : Fin 3072, (A (ix2 r k) : EReal) * B (ix2 k l) := by
    rw [ref_dot_plain]
    exact StackMember.dotGeneral_plain_apply none A B r l
  rw [hd]
  unfold share
  refine Fin.sum_mul_add_congr (S := 4) (n := 768) fun c k hl => ?_
  have ha : (aStg m ρ c (ix2 r k) : EReal) = A (ix2 r ⟨c.val * 768 + k.val, hl⟩) := by
    rw [aStg_eq, hA, Layout.block_apply]
    congr 1
    funext a
    apply Fin.ext
    match a with
    | ⟨0, _⟩ => rfl
    | ⟨1, _⟩ => rfl
  have hb : (bStg m ρ c (ix2 k l) : EReal) = B (ix2 ⟨c.val * 768 + k.val, hl⟩ l) := by
    rw [bStg_eq, hB, Layout.block_apply]
    congr 1
    funext a
    apply Fin.ext
    match a with
    | ⟨0, _⟩ => rfl
    | ⟨1, _⟩ => rfl
  rw [ha, hb]

/-- Every row of the result lies in one band of one device. -/
theorem row_cover (x : Fin 1536) : ∃ (q : Dev nD) (d : Bool) (j : Fin 2) (r : Fin 96), rowOf q d j r = x := by
  have hx := x.isLt
  have hbd : ∀ b : Fin 16, ∃ (q : Dev nD) (d : Bool) (j : Fin 2), bd q d j = b := by decide
  obtain ⟨q, d, j, h⟩ := hbd ⟨x.val / 96, by omega⟩
  refine ⟨q, d, j, ⟨x.val % 96, by omega⟩, Fin.ext ?_⟩
  show 96 * (bd q d j).val + x.val % 96 = x.val
  rw [h]
  show 96 * (x.val / 96) + x.val % 96 = x.val
  omega

theorem out_eq (m : (ℓ : Loc nD τ sig) → Buf (Elt Ideal) ℓ) (ρ : Dev nD → PrngReg)
    (A : FVec Ideal ⟨2, ![1536, 3072]⟩ .bf16) (B : FVec Ideal ⟨2, ![3072, 1536]⟩ .bf16)
    (hA : ∀ c : Dev nD, m ((c : Thread nD τ).loc main_arg0) = Layout.block ⟨2, ![1536, 768]⟩ ⟨2, ![1536, 3072]⟩ 1 4 c A)
    (hB : ∀ c : Dev nD, m ((c : Thread nD τ).loc main_arg1) = Layout.block ⟨2, ![768, 1536]⟩ ⟨2, ![3072, 1536]⟩ 0 4 c B) :
    outFull m ρ = refOf (Host.dotGeneral Cert.ReferenceIdeal.dot_S1536x3072_S3072x1536_S1536x1536_1_0_0_1_n_n none A B) := by
  funext x
  obtain ⟨a, b, rfl⟩ : ∃ (a b : Fin 1536), x = ix2 a b := ⟨x 0, x 1, eq_ix2 x⟩
  obtain ⟨q, d, j, r, rfl⟩ := row_cover a
  have hx : ix2 (rowOf q d j r) b = (bandR (bd q d j)).emb (ix2 r b) := by
    funext a
    apply Fin.ext
    match a with
    | ⟨0, _⟩ => show 96 * (bd q d j).val + r.val = 96 * (bd q d j).val + 1 * r.val; omega
    | ⟨1, _⟩ => show b.val = 0 + 1 * b.val; omega
  have e : outFull m ρ (ix2 (rowOf q d j r) b) = outV m ρ q d j (ix2 r b) := (congrArg (outFull m ρ) hx).trans (outFull_band m ρ q d j _)
  rw [e]
  exact act_eq _ _ _ _ ((sum_apply m ρ q d j r b).trans (whole_apply m ρ A B hA hB _ _))

/-- Over the extended reals every device ends with the reference's result. -/
theorem algebraic : Cert.algebraic_KernelIdeal_ReferenceIdeal := by
  intro m ρ m' ρ' _ hag
  refine ⟨_, (θ_run Cert.KernelIdeal.defs _ _).mono (fun _ h c => ⟨(h.1 c).1.trans (out_eq m ρ _ _ (fun c => (hag c).1) (fun c => (hag c).2)), (h.1 c).2⟩)
    (run_out (F := Ideal) m ρ), (θ_run Cert.ReferenceIdeal.defs _ _).mono (fun _ h => h 0) (Cert.ReferenceIdeal.Value.run (F := Ideal) m' ρ')⟩

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingProof.frame_kernel, Cert.RingProof.frame_ideal, Cert.RingProof.frame_reference, trivial, Cert.RingProof.algebraic⟩

end Cert.Proof

end
